-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x2048x1024 : Shape := ⟨3, ![1, 2048, 1024]⟩
abbrev S1024x8 : Shape := ⟨2, ![1024, 8]⟩
abbrev S8x1024x4096 : Shape := ⟨3, ![8, 1024, 4096]⟩
abbrev S8x4096 : Shape := ⟨2, ![8, 4096]⟩
abbrev S8x4096x1024 : Shape := ⟨3, ![8, 4096, 1024]⟩
abbrev S8x1024 : Shape := ⟨2, ![8, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x8 : S_.BroadcastsInDim S1024x8 (![] : Fin 0 → Fin S1024x8.rank)
  reducesTo_S1024x8_S_d0_1 : S1024x8.ReducesTo [0, 1] S_
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x4096 : S_.BroadcastsInDim S8x4096 (![] : Fin 0 → Fin S8x4096.rank)
  reducesTo_S8x4096_S_d0_1 : S8x4096.ReducesTo [0, 1] S_
  bcast_S_S8x4096x1024 : S_.BroadcastsInDim S8x4096x1024 (![] : Fin 0 → Fin S8x4096x1024.rank)
  reducesTo_S8x4096x1024_S_d0_1_2 : S8x4096x1024.ReducesTo [0, 1, 2] S_

variable [Facts]

def fn_part1 {F : FTy → Type} [FloatOps F] (main_arg4 : FVec F S8x4096x1024 .f32) (main_v3 : IVec S_ 1) (main_v7 : IVec S_ 1) (main_v11 : IVec S_ 1) (main_v15 : IVec S_ 1) : IVec S_ 1 × IVec S_ 1 × IVec S_ 1 × IVec S_ 1 × IVec S_ 1 :=
  let main_v16 : FVec F S8x4096x1024 .f32 := Host.absf main_arg4
  let main_cst_6 : FVec F S_ .f32 := constant S_ .f32 0x7F800000#32
  let main_v17 : FVec F S8x4096x1024 .f32 := broadcastInDim S8x4096x1024 ![] bcast_S_S8x4096x1024 main_cst_6
  let main_v18 : IVec S8x4096x1024 1 := cmpf .olt main_v16 main_v17
  let main_c_7 : IVec S_ 1 := constantI S_ 1 1#1
  let main_v19 : IVec S_ 1 := (fun x v => Host.reduce IntOp.andi x v reducesTo_S8x4096x1024_S_d0_1_2 h_S_) main_v18 main_c_7
  (main_v3, main_v7, main_v11, main_v15, main_v19)

def fn {F : FTy → Type} [FloatOps F] (main_arg0 : FVec F S1x2048x1024 .f32) (main_arg1 : FVec F S1024x8 .f32) (main_arg2 : FVec F S8x1024x4096 .f32) (main_arg3 : FVec F S8x4096 .f32) (main_arg4 : FVec F S8x4096x1024 .f32) (main_arg5 : FVec F S8x1024 .f32) : IVec S_ 1 × IVec S_ 1 × IVec S_ 1 × IVec S_ 1 × IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : FVec F S8x1024x4096 .f32 := Host.absf main_arg2
  let main_cst_2 : FVec F S_ .f32 := constant S_ .f32 0x7F800000#32
  let main_v9 : FVec F S8x1024x4096 .f32 := broadcastInDim S8x1024x4096 ![] bcast_S_S8x1024x4096 main_cst_2
  let main_v10 : IVec S8x1024x4096 1 := cmpf .olt main_v8 main_v9
  let main_c_3 : IVec S_ 1 := constantI S_ 1 1#1
  let main_v11 : IVec S_ 1 := (fun x v => Host.reduce IntOp.andi x v reducesTo_S8x1024x4096_S_d0_1_2 h_S_) main_v10 main_c_3
  let main_v12 : FVec F S8x4096 .f32 := Host.absf main_arg3
  let main_cst_4 : FVec F S_ .f32 := constant S_ .f32 0x7F800000#32
  let main_v13 : FVec F S8x4096 .f32 := broadcastInDim S8x4096 ![] bcast_S_S8x4096 main_cst_4
  let main_v14 : IVec S8x4096 1 := cmpf .olt main_v12 main_v13
  let main_c_5 : IVec S_ 1 := constantI S_ 1 1#1
  let main_v15 : IVec S_ 1 := (fun x v => Host.reduce IntOp.andi x v reducesTo_S8x4096_S_d0_1 h_S_) main_v14 main_c_5
  fn_part1 (F := F) main_arg4 main_v3 main_v7 main_v11 main_v15
-- ==== Kernel.lean ====
abbrev S1x2048x1024 : Shape := ⟨3, ![1, 2048, 1024]⟩
abbrev S1024x8 : Shape := ⟨2, ![1024, 8]⟩
abbrev S8x1024x4096 : Shape := ⟨3, ![8, 1024, 4096]⟩
abbrev S8x4096 : Shape := ⟨2, ![8, 4096]⟩
abbrev S8x4096x1024 : Shape := ⟨3, ![8, 4096, 1024]⟩
abbrev S8x1024 : Shape := ⟨2, ![8, 1024]⟩
abbrev S2048x1024 : Shape := ⟨2, ![2048, 1024]⟩
abbrev S8x1x4096 : Shape := ⟨3, ![8, 1, 4096]⟩
abbrev S1x1x2048 : Shape := ⟨3, ![1, 1, 2048]⟩
abbrev S1x1024 : Shape := ⟨2, ![1, 1024]⟩
abbrev S1x2048 : Shape := ⟨2, ![1, 2048]⟩
abbrev S8x1x1024 : Shape := ⟨3, ![8, 1, 1024]⟩
abbrev S1x512x4096 : Shape := ⟨3, ![1, 512, 4096]⟩
abbrev S1x1x4096 : Shape := ⟨3, ![1, 1, 4096]⟩
abbrev S1x1x512 : Shape := ⟨3, ![1, 1, 512]⟩
abbrev S512x4096 : Shape := ⟨2, ![512, 4096]⟩
abbrev S1x4096 : Shape := ⟨2, ![1, 4096]⟩
abbrev S1x512 : Shape := ⟨2, ![1, 512]⟩
abbrev S16x1024 : Shape := ⟨2, ![16, 1024]⟩
abbrev S16x2048 : Shape := ⟨2, ![16, 2048]⟩
abbrev S8 : Shape := ⟨1, ![8]⟩
abbrev S8x1 : Shape := ⟨2, ![8, 1]⟩
abbrev S8x2048 : Shape := ⟨2, ![8, 2048]⟩
abbrev S2048 : Shape := ⟨1, ![2048]⟩
abbrev S1 : Shape := ⟨1, ![1]⟩
abbrev S1x1 : Shape := ⟨2, ![1, 1]⟩

abbrev nBuf : Space → Nat
  | .hbm => 14
  | .vmem => 16
  | .smem => 0
  | _ => 0

abbrev bufTy : (tb : Table) → Fin (tcTables nBuf tb) → BufTy
  | .hbm, ⟨0, _⟩ => ⟨S1x2048x1024, .f32⟩
  | .hbm, ⟨1, _⟩ => ⟨S1024x8, .f32⟩
  | .hbm, ⟨2, _⟩ => ⟨S8x1024x4096, .f32⟩
  | .hbm, ⟨3, _⟩ => ⟨S8x4096, .f32⟩
  | .hbm, ⟨4, _⟩ => ⟨S8x4096x1024, .f32⟩
  | .hbm, ⟨5, _⟩ => ⟨S8x1024, .f32⟩
  | .hbm, ⟨6, _⟩ => ⟨S2048x1024, .f32⟩
  | .hbm, ⟨7, _⟩ => ⟨S8x1x4096, .f32⟩
  | .hbm, ⟨8, _⟩ => ⟨S8x1x1024, .f32⟩
  | .hbm, ⟨9, _⟩ => ⟨S8x1024, .f32⟩
  | .hbm, ⟨10, _⟩ => ⟨S8x1024, .f32⟩
  | .hbm, ⟨11, _⟩ => ⟨S16x1024, .f32⟩
  | .hbm, ⟨12, _⟩ => ⟨S8x4096, .f32⟩
  | .hbm, ⟨13, _⟩ => ⟨S1x2048, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1x2048, .f32⟩
  | .local _ .vmem, ⟨3, _⟩ => ⟨S1x1x2048, .f32⟩
  | .local _ .vmem, ⟨4, _⟩ => ⟨S1x512x4096, .f32⟩
  | .local _ .vmem, ⟨5, _⟩ => ⟨S1x512x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x1x512, .f32⟩
  | .local _ .vmem, ⟨9, _⟩ => ⟨S1x1x512, .f32⟩
  | .local _ .vmem, ⟨10, _⟩ => ⟨S2048x1024, .f32⟩
  | .local _ .vmem, ⟨11, _⟩ => ⟨S16x1024, .f32⟩
  | .local _ .vmem, ⟨12, _⟩ => ⟨S8x4096, .f32⟩
  | .local _ .vmem, ⟨13, _⟩ => ⟨S8x1024, .f32⟩
  | .local _ .vmem, ⟨14, _⟩ => ⟨S8x4096, .f32⟩
  | .local _ .vmem, ⟨15, _⟩ => ⟨S1x2048, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := .none

abbrev stage2_0 : Fin 1 → Memref sig .tc .vmem S2048x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S16x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S8x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S8x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S8x4096 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S1x2048 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
-- ==== ReferenceIdeal.lean ====
abbrev S1x2048x1024 : Shape := ⟨3, ![1, 2048, 1024]⟩
abbrev S1024x8 : Shape := ⟨2, ![1024, 8]⟩
abbrev S8x1024x4096 : Shape := ⟨3, ![8, 1024, 4096]⟩
abbrev S8x4096 : Shape := ⟨2, ![8, 4096]⟩
abbrev S8x4096x1024 : Shape := ⟨3, ![8, 4096, 1024]⟩
abbrev S8x1024 : Shape := ⟨2, ![8, 1024]⟩
abbrev S2048x1024 : Shape := ⟨2, ![2048, 1024]⟩
abbrev S2048x8 : Shape := ⟨2, ![2048, 8]⟩
abbrev S_ : Shape := ⟨0, ![]⟩
abbrev S2048 : Shape := ⟨1, ![2048]⟩
abbrev S2048x1 : Shape := ⟨2, ![2048, 1]⟩
abbrev S1x8 : Shape := ⟨2, ![1, 8]⟩
abbrev S8 : Shape := ⟨1, ![8]⟩
abbrev S8x512x1024 : Shape := ⟨3, ![8, 512, 1024]⟩
abbrev S2048x2 : Shape := ⟨2, ![2048, 2]⟩
abbrev S8x512x4096 : Shape := ⟨3, ![8, 512, 4096]⟩
abbrev S8x1x4096 : Shape := ⟨3, ![8, 1, 4096]⟩
abbrev S8x1x1024 : Shape := ⟨3, ![8, 1, 1024]⟩
abbrev S1x2048 : Shape := ⟨2, ![1, 2048]⟩
abbrev S1 : Shape := ⟨1, ![1]⟩
abbrev S1x1 : Shape := ⟨2, ![1, 1]⟩

abbrev nBuf : Space → Nat
  | .hbm => 213
  | .vmem => 0
  | .smem => 0
  | _ => 0

abbrev hbmTy0_0 (i : Nat) : BufTy := match i % 128 with
  | 0 => ⟨S1x2048x1024, .f32⟩
  | 1 => ⟨S1024x8, .f32⟩
  | 2 => ⟨S8x1024x4096, .f32⟩
  | 3 => ⟨S8x4096, .f32⟩
  | 4 => ⟨S8x4096x1024, .f32⟩
  | 5 => ⟨S8x1024, .f32⟩
  | 6 => ⟨S2048x1024, .f32⟩
  | 7 => ⟨S2048x8, .f32⟩
  | 8 => ⟨S_, .f32⟩
  | 9 => ⟨S2048, .f32⟩
  | 10 => ⟨S_, .f32⟩
  | 11 => ⟨S2048, .f32⟩
  | 12 => ⟨S2048, .f32⟩
  | 13 => ⟨S2048x1, .f32⟩
  | 14 => ⟨S2048x8, .f32⟩
  | 15 => ⟨S2048x8, .f32⟩
  | 16 => ⟨S2048x8, .f32⟩
  | 17 => ⟨S_, .f32⟩
  | 18 => ⟨S2048, .f32⟩
  | 19 => ⟨S2048x1, .f32⟩
  | 20 => ⟨S2048x8, .f32⟩
  | 21 => ⟨S2048x8, .f32⟩
  | 22 => ⟨S2048x8, .i32⟩
  | 23 => ⟨S_, .f32⟩
  | 24 => ⟨S_, .i32⟩
  | 25 => ⟨S2048, .f32⟩
  | 26 => ⟨S2048, .i32⟩
  | 27 => ⟨S2048x1, .i32⟩
  | 28 => ⟨S1x8, .i32⟩
  | 29 => ⟨S2048x8, .i32⟩
  | 30 => ⟨S2048x8, .i32⟩
  | 31 => ⟨S2048x8, .i1⟩
  | 32 => ⟨S2048x8, .f32⟩
  | 33 => ⟨S_, .f32⟩
  | 34 => ⟨S2048x8, .f32⟩
  | 35 => ⟨S2048x8, .i1⟩
  | 36 => ⟨S_, .f32⟩
  | 37 => ⟨S_, .f32⟩
  | 38 => ⟨S2048x8, .f32⟩
  | 39 => ⟨S2048x8, .f32⟩
  | 40 => ⟨S2048x8, .i32⟩
  | 41 => ⟨S_, .f32⟩
  | 42 => ⟨S_, .i32⟩
  | 43 => ⟨S2048, .f32⟩
  | 44 => ⟨S2048, .i32⟩
  | 45 => ⟨S2048x1, .i32⟩
  | 46 => ⟨S1x8, .i32⟩
  | 47 => ⟨S2048x8, .i32⟩
  | 48 => ⟨S2048x8, .i32⟩
  | 49 => ⟨S2048x8, .i1⟩
  | 50 => ⟨S2048x8, .f32⟩
  | 51 => ⟨S2048x8, .f32⟩
  | 52 => ⟨S_, .f32⟩
  | 53 => ⟨S2048, .f32⟩
  | 54 => ⟨S2048x8, .f32⟩
  | 55 => ⟨S_, .f32⟩
  | 56 => ⟨S2048, .f32⟩
  | 57 => ⟨S2048, .f32⟩
  | 58 => ⟨S_, .f32⟩
  | 59 => ⟨S2048, .f32⟩
  | 60 => ⟨S2048, .f32⟩
  | 61 => ⟨S2048, .f32⟩
  | 62 => ⟨S2048, .f32⟩
  | 63 => ⟨S_, .f32⟩
  | 64 => ⟨S_, .f32⟩
  | 65 => ⟨S2048x8, .f32⟩
  | 66 => ⟨S2048x8, .f32⟩
  | 67 => ⟨S_, .f32⟩
  | 68 => ⟨S_, .f32⟩
  | 69 => ⟨S2048x8, .f32⟩
  | 70 => ⟨S2048x8, .f32⟩
  | 71 => ⟨S_, .f32⟩
  | 72 => ⟨S8, .f32⟩
  | 73 => ⟨S1x8, .f32⟩
  | 74 => ⟨S2048x8, .f32⟩
  | 75 => ⟨S2048x8, .f32⟩
  | 76 => ⟨S_, .f32⟩
  | 77 => ⟨S2048x8, .f32⟩
  | 78 => ⟨S2048x8, .i1⟩
  | 79 => ⟨S2048x8, .f32⟩
  | 80 => ⟨S2048x8, .f32⟩
  | 81 => ⟨S_, .f32⟩
  | 82 => ⟨S2048x8, .f32⟩
  | 83 => ⟨S2048x8, .i1⟩
  | 84 => ⟨S2048x8, .f32⟩
  | 85 => ⟨S2048x8, .f32⟩
  | 86 => ⟨S2048x8, .f32⟩
  | 87 => ⟨S_, .f32⟩
  | 88 => ⟨S2048, .f32⟩
  | 89 => ⟨S2048, .i32⟩
  | 90 => ⟨S2048x8, .f32⟩
  | 91 => ⟨S_, .f32⟩
  | 92 => ⟨S2048, .f32⟩
  | 93 => ⟨S2048, .i32⟩
  | 94 => ⟨S_, .f32⟩
  | 95 => ⟨S2048, .f32⟩
  | 96 => ⟨S_, .f32⟩
  | 97 => ⟨S2048, .f32⟩
  | 98 => ⟨S_, .f32⟩
  | 99 => ⟨S8x512x1024, .f32⟩
  | 100 => ⟨S2048x1, .f32⟩
  | 101 => ⟨S2048x1024, .f32⟩
  | 102 => ⟨S2048x1024, .f32⟩
  | 103 => ⟨S_, .i32⟩
  | 104 => ⟨S2048, .i32⟩
  | 105 => ⟨S2048, .i1⟩
  | 106 => ⟨S_, .i32⟩
  | 107 => ⟨S2048, .i32⟩
  | 108 => ⟨S2048, .i32⟩
  | 109 => ⟨S2048, .i32⟩
  | 110 => ⟨S_, .i32⟩
  | 111 => ⟨S2048, .i32⟩
  | 112 => ⟨S2048, .i1⟩
  | 113 => ⟨S_, .i32⟩
  | 114 => ⟨S2048, .i32⟩
  | 115 => ⟨S2048, .i32⟩
  | 116 => ⟨S2048, .i32⟩
  | 117 => ⟨S2048x1, .i32⟩
  | 118 => ⟨S2048x1, .i32⟩
  | 119 => ⟨S2048x2, .i32⟩
  | 120 => ⟨S8x512x1024, .f32⟩
  | 121 => ⟨S2048x1, .f32⟩
  | 122 => ⟨S2048x1024, .f32⟩
  | 123 => ⟨S2048x1024, .f32⟩
  | 124 => ⟨S_, .i32⟩
  | 125 => ⟨S2048, .i32⟩
  | 126 => ⟨S2048, .i1⟩
  | 127 => ⟨S_, .i32⟩
  | _ => ⟨S1x2048x1024, .f32⟩

abbrev hbmTy0_1 (i : Nat) : BufTy := match i % 128 with
  | 0 => ⟨S2048, .i32⟩
  | 1 => ⟨S2048, .i32⟩
  | 2 => ⟨S2048, .i32⟩
  | 3 => ⟨S_, .i32⟩
  | 4 => ⟨S2048, .i32⟩
  | 5 => ⟨S2048, .i1⟩
  | 6 => ⟨S_, .i32⟩
  | 7 => ⟨S2048, .i32⟩
  | 8 => ⟨S2048, .i32⟩
  | 9 => ⟨S2048, .i32⟩
  | 10 => ⟨S2048x1, .i32⟩
  | 11 => ⟨S2048x1, .i32⟩
  | 12 => ⟨S2048x2, .i32⟩
  | 13 => ⟨S8x512x1024, .f32⟩
  | 14 => ⟨S8x512x4096, .f32⟩
  | 15 => ⟨S8x1x4096, .f32⟩
  | 16 => ⟨S8x512x4096, .f32⟩
  | 17 => ⟨S8x512x4096, .f32⟩
  | 18 => ⟨S8x512x1024, .f32⟩
  | 19 => ⟨S8x1x1024, .f32⟩
  | 20 => ⟨S8x512x1024, .f32⟩
  | 21 => ⟨S8x512x1024, .f32⟩
  | 22 => ⟨S2048, .f32⟩
  | 23 => ⟨S2048x1, .f32⟩
  | 24 => ⟨S_, .i32⟩
  | 25 => ⟨S2048, .i32⟩
  | 26 => ⟨S2048, .i1⟩
  | 27 => ⟨S_, .i32⟩
  | 28 => ⟨S2048, .i32⟩
  | 29 => ⟨S2048, .i32⟩
  | 30 => ⟨S2048, .i32⟩
  | 31 => ⟨S_, .i32⟩
  | 32 => ⟨S2048, .i32⟩
  | 33 => ⟨S2048, .i1⟩
  | 34 => ⟨S_, .i32⟩
  | 35 => ⟨S2048, .i32⟩
  | 36 => ⟨S2048, .i32⟩
  | 37 => ⟨S2048, .i32⟩
  | 38 => ⟨S2048x1, .i32⟩
  | 39 => ⟨S2048x1, .i32⟩
  | 40 => ⟨S2048x2, .i32⟩
  | 41 => ⟨S2048x1024, .f32⟩
  | 42 => ⟨S2048x1024, .f32⟩
  | 43 => ⟨S2048x1024, .f32⟩
  | 44 => ⟨S2048, .f32⟩
  | 45 => ⟨S2048x1, .f32⟩
  | 46 => ⟨S_, .i32⟩
  | 47 => ⟨S2048, .i32⟩
  | 48 => ⟨S2048, .i1⟩
  | 49 => ⟨S_, .i32⟩
  | 50 => ⟨S2048, .i32⟩
  | 51 => ⟨S2048, .i32⟩
  | 52 => ⟨S2048, .i32⟩
  | 53 => ⟨S_, .i32⟩
  | 54 => ⟨S2048, .i32⟩
  | 55 => ⟨S2048, .i1⟩
  | 56 => ⟨S_, .i32⟩
  | 57 => ⟨S2048, .i32⟩
  | 58 => ⟨S2048, .i32⟩
  | 59 => ⟨S2048, .i32⟩
  | 60 => ⟨S2048x1, .i32⟩
  | 61 => ⟨S2048x1, .i32⟩
  | 62 => ⟨S2048x2, .i32⟩
  | 63 => ⟨S2048x1024, .f32⟩
  | 64 => ⟨S2048x1024, .f32⟩
  | 65 => ⟨S2048x1024, .f32⟩
  | 66 => ⟨S2048x1024, .f32⟩
  | 67 => ⟨S1x2048x1024, .f32⟩
  | 68 => ⟨S_, .f32⟩
  | 69 => ⟨S1x2048, .f32⟩
  | 70 => ⟨S_, .f32⟩
  | 71 => ⟨S1, .f32⟩
  | 72 => ⟨S_, .f32⟩
  | 73 => ⟨S1, .f32⟩
  | 74 => ⟨S1, .f32⟩
  | 75 => ⟨S1x1, .f32⟩
  | 76 => ⟨S1x2048, .f32⟩
  | 77 => ⟨S1x2048, .f32⟩
  | 78 => ⟨S1x2048, .f32⟩
  | 79 => ⟨S_, .f32⟩
  | 80 => ⟨S1, .f32⟩
  | 81 => ⟨S1x1, .f32⟩
  | 82 => ⟨S1x1, .f32⟩
  | 83 => ⟨S1x2048, .f32⟩
  | 84 => ⟨S1x2048, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_call0_cst : Ref sig .tc := ⟨.hbm, 23, rfl⟩
abbrev main_call0_c : Ref sig .tc := ⟨.hbm, 24, rfl⟩
abbrev main_call0_v1_0 : Ref sig .tc := ⟨.hbm, 25, rfl⟩
abbrev main_v13 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_call2_v0 : Ref sig .tc := ⟨.hbm, 37, rfl⟩
abbrev main_call2_v1 : Ref sig .tc := ⟨.hbm, 38, rfl⟩
abbrev main_v17 : Ref sig .tc := ⟨.hbm, 39, rfl⟩
abbrev main_call3_v0 : Ref sig .tc := ⟨.hbm, 40, rfl⟩
abbrev main_call3_cst : Ref sig .tc := ⟨.hbm, 41, rfl⟩
abbrev main_call3_c : Ref sig .tc := ⟨.hbm, 42, rfl⟩
abbrev main_call3_v1_0 : Ref sig .tc := ⟨.hbm, 43, rfl⟩
abbrev main_v18 : Ref sig .tc := ⟨.hbm, 44, rfl⟩
abbrev main_call4_v0 : Ref sig .tc := ⟨.hbm, 45, rfl⟩
abbrev main_call4_v1 : Ref sig .tc := ⟨.hbm, 46, rfl⟩
abbrev main_call4_v2 : Ref sig .tc := ⟨.hbm, 47, rfl⟩
abbrev main_call4_v3 : Ref sig .tc := ⟨.hbm, 48, rfl⟩
abbrev main_call4_v4 : Ref sig .tc := ⟨.hbm, 49, rfl⟩
abbrev main_v19 : Ref sig .tc := ⟨.hbm, 50, rfl⟩
abbrev main_v20 : Ref sig .tc := ⟨.hbm, 51, rfl⟩
abbrev main_cst_4 : Ref sig .tc := ⟨.hbm, 52, rfl⟩
abbrev main_v21 : Ref sig .tc := ⟨.hbm, 53, rfl⟩
abbrev main_v22 : Ref sig .tc := ⟨.hbm, 54, rfl⟩
abbrev main_cst_5 : Ref sig .tc := ⟨.hbm, 55, rfl⟩
abbrev main_v23 : Ref sig .tc := ⟨.hbm, 56, rfl⟩
abbrev main_v24 : Ref sig .tc := ⟨.hbm, 57, rfl⟩
abbrev main_cst_6 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_call5_call0_cst : Ref sig .tc := ⟨.hbm, 63, rfl⟩
abbrev main_call5_call0_v0 : Ref sig .tc := ⟨.hbm, 64, rfl⟩
abbrev main_v29 : Ref sig .tc := ⟨.hbm, 65, rfl⟩
abbrev main_v30 : Ref sig .tc := ⟨.hbm, 66, rfl⟩
abbrev main_call6_call0_cst : Ref sig .tc := ⟨.hbm, 67, rfl⟩
abbrev main_call6_call0_v0 : Ref sig .tc := ⟨.hbm, 68, rfl⟩
abbrev main_v31 : Ref sig .tc := ⟨.hbm, 69, rfl⟩
abbrev main_v32 : Ref sig .tc := ⟨.hbm, 70, rfl⟩
abbrev main_cst_7 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_cst_8 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_cst_9 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_10 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_cst_11 : Ref sig .tc := ⟨.hbm, 91, rfl⟩
abbrev main_v49 : Ref sig .tc := ⟨.hbm, 92, rfl⟩
abbrev main_v50 : Ref sig .tc := ⟨.hbm, 93, rfl⟩
abbrev main_cst_12 : Ref sig .tc := ⟨.hbm, 94, rfl⟩
abbrev main_v51 : Ref sig .tc := ⟨.hbm, 95, rfl⟩
abbrev main_cst_13 : Ref sig .tc := ⟨.hbm, 96, rfl⟩
abbrev main_v52 : Ref sig .tc := ⟨.hbm, 97, rfl⟩
abbrev main_cst_14 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_c : Ref sig .tc := ⟨.hbm, 103, rfl⟩
abbrev main_v57 : Ref sig .tc := ⟨.hbm, 104, rfl⟩
abbrev main_v58 : Ref sig .tc := ⟨.hbm, 105, rfl⟩
abbrev main_c_15 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_c_16 : Ref sig .tc := ⟨.hbm, 110, rfl⟩
abbrev main_v62 : Ref sig .tc := ⟨.hbm, 111, rfl⟩
abbrev main_v63 : Ref sig .tc := ⟨.hbm, 112, rfl⟩
abbrev main_c_17 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_c_18 : Ref sig .tc := ⟨.hbm, 124, rfl⟩
abbrev main_v74 : Ref sig .tc := ⟨.hbm, 125, rfl⟩
abbrev main_v75 : Ref sig .tc := ⟨.hbm, 126, rfl⟩
abbrev main_c_19 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_c_20 : Ref sig .tc := ⟨.hbm, 131, rfl⟩
abbrev main_v79 : Ref sig .tc := ⟨.hbm, 132, rfl⟩
abbrev main_v80 : Ref sig .tc := ⟨.hbm, 133, rfl⟩
abbrev main_c_21 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_c_22 : Ref sig .tc := ⟨.hbm, 152, rfl⟩
abbrev main_v98 : Ref sig .tc := ⟨.hbm, 153, rfl⟩
abbrev main_v99 : Ref sig .tc := ⟨.hbm, 154, rfl⟩
abbrev main_c_23 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_c_24 : Ref sig .tc := ⟨.hbm, 159, rfl⟩
abbrev main_v103 : Ref sig .tc := ⟨.hbm, 160, rfl⟩
abbrev main_v104 : Ref sig .tc := ⟨.hbm, 161, rfl⟩
abbrev main_c_25 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_c_26 : Ref sig .tc := ⟨.hbm, 174, rfl⟩
abbrev main_v116 : Ref sig .tc := ⟨.hbm, 175, rfl⟩
abbrev main_v117 : Ref sig .tc := ⟨.hbm, 176, rfl⟩
abbrev main_c_27 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_c_28 : Ref sig .tc := ⟨.hbm, 181, rfl⟩
abbrev main_v121 : Ref sig .tc := ⟨.hbm, 182, rfl⟩
abbrev main_v122 : Ref sig .tc := ⟨.hbm, 183, rfl⟩
abbrev main_c_29 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_cst_30 : Ref sig .tc := ⟨.hbm, 196, rfl⟩
abbrev main_v134 : Ref sig .tc := ⟨.hbm, 197, rfl⟩
abbrev main_call7_cst : Ref sig .tc := ⟨.hbm, 198, rfl⟩
abbrev main_call7_v0 : Ref sig .tc := ⟨.hbm, 199, rfl⟩
abbrev main_call7_cst_0 : Ref sig .tc := ⟨.hbm, 200, rfl⟩
abbrev main_call7_v1 : Ref sig .tc := ⟨.hbm, 201, rfl⟩
abbrev main_call7_v2 : Ref sig .tc := ⟨.hbm, 202, rfl⟩
abbrev main_call7_v3 : Ref sig .tc := ⟨.hbm, 203, rfl⟩
abbrev main_call7_v4 : Ref sig .tc := ⟨.hbm, 204, rfl⟩
abbrev main_call7_v5 : Ref sig .tc := ⟨.hbm, 205, rfl⟩
abbrev main_call7_v6 : Ref sig .tc := ⟨.hbm, 206, rfl⟩
abbrev main_call7_cst_1 : Ref sig .tc := ⟨.hbm, 207, rfl⟩
abbrev main_call7_v7 : Ref sig .tc := ⟨.hbm, 208, rfl⟩
abbrev main_call7_v8 : Ref sig .tc := ⟨.hbm, 209, rfl⟩
abbrev main_call7_v9 : Ref sig .tc := ⟨.hbm, 210, rfl⟩
abbrev main_call7_v10 : Ref sig .tc := ⟨.hbm, 211, rfl⟩
abbrev main_v135 : Ref sig .tc := ⟨.hbm, 212, rfl⟩

abbrev nD : Nat := 1
abbrev τ : Topo := Topo.v7x

variable {F : FTy → Type} [FloatOps F]
-- ==== Proof.KernelRun.lean ====
/- The kernel's run, read at its result: every execution ends with the result array holding what the last region's
   write-backs leave in it, the arguments unchanged and every semaphore at zero. -/
module

public import proofs.«01_k».proof.Proof.Gen.KernelIdeal.Frame

@[expose] public section

set_option maxRecDepth 16384

noncomputable section

namespace Cert.Moe.Ker

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option backward.isDefEq.respectTransparency.types false in
/-- The kernel's run, with its result. -/
theorem run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v7) = W5 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨h c _ (mem_uc main_v7 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩), funext fun g => hz g (.inr (no_unscoped g.2))⟩)

end Cert.Moe.Ker

end
-- ==== Proof.Top.lean ====
/- The first position of the greatest of eight extended reals, and the two ways in which the programs find it: the least
   position at which the value is the maximum, and a left fold that keeps a (value, position) pair. -/
module

public import Idealize.ShloMosaic.PureOps.Ideal
public import Idealize.ShloMosaic.PureOps.Reduce
public import Mathlib.Data.Finset.Fold
public import Mathlib.Data.EReal.Basic
public import Mathlib.Data.Fintype.Lattice

@[expose] public section

noncomputable section

namespace Cert.Moe

open Idealize.ShloMosaic

/-- Position `i` holds the greatest value of `f`, and no earlier one does. -/
def IsTop (f : Fin 8 → EReal) (i : Fin 8) : Prop := (∀ j, f j ≤ f i) ∧ ∀ j, f j = f i → i ≤ j

/-- Some position is the first greatest. -/
theorem exists_top (f : Fin 8 → EReal) : ∃ i, IsTop f i := by
  classical
  obtain ⟨m, hm⟩ := Finite.exists_max f
  let S : Finset (Fin 8) := Finset.univ.filter fun i => f i = f m
  have hS : S.Nonempty := ⟨m, by simp [S]⟩
  have hi : f (S.min' hS) = f m := by
    have := S.min'_mem hS
    simpa [S] using this
  refine ⟨S.min' hS, fun j => hi ▸ hm j, fun j hj => S.min'_le j ?_⟩
  simp [S, hj, hi]

/-- The first position of the greatest value. -/
def top (f : Fin 8 → EReal) : Fin 8 := Classical.choose (exists_top f)

/-- `top f` is the least position of the maximum. -/
theorem top_spec (f : Fin 8 → EReal) : IsTop f (top f) := Classical.choose_spec (exists_top f)

/-- Every value is at most the one at `top f`. -/
theorem le_top (f : Fin 8 → EReal) (j : Fin 8) : f j ≤ f (top f) := (top_spec f).1 j

/-- There is only one first position of the greatest value. -/
theorem top_unique {f : Fin 8 → EReal} {i : Fin 8} (h : IsTop f i) : top f = i :=
  le_antisymm ((top_spec f).2 i (le_antisymm (le_top f i) (h.1 _))) (h.2 _ (le_antisymm (h.1 _) (le_top f i)))

/-- The position depends on the order of the values only. -/
theorem top_congr {f g : Fin 8 → EReal} (h : ∀ i j, f i ≤ f j ↔ g i ≤ g j) : top f = top g := by
  refine top_unique ⟨fun j => (h _ _).2 (le_top g j), fun j hj => ?_⟩
  exact (top_spec g).2 j (le_antisymm (le_top g j) ((h _ _).1 hj.ge))

/-- The maximum over the eight positions, from the least value, is the value at the first greatest position. -/
theorem fold_max (f : Fin 8 → EReal) : Finset.fold max ⊥ f Finset.univ = f (top f) := by
  refine le_antisymm ?_ ?_
  · rw [Finset.fold_max_le]
    exact ⟨bot_le, fun j _ => le_top f j⟩
  · rw [Finset.le_fold_max]
    exact Or.inr ⟨top f, Finset.mem_univ _, le_rfl⟩

/-- The word 0xFF800000 is minus infinity. -/
theorem neg_inf : Ideal.ofBits .f32 0xFF800000#32 = ⊥ := by simp [Ideal.ofBits, Ideal.ieee]

/-! ### The least position at which the value is the maximum -/

/-- A fold of signed minima is its start or one of the words, and below all of them. -/
theorem fold_minsi (s : Finset (Fin 8)) (g : Fin 8 → BitVec 32) (b : BitVec 32) :
    (Finset.fold IntOp.minsi b g s = b ∨ ∃ i ∈ s, Finset.fold IntOp.minsi b g s = g i)
      ∧ ∀ i ∈ s, (Finset.fold IntOp.minsi b g s).toInt ≤ (g i).toInt := by
  classical
  induction s using Finset.induction_on with
  | empty => simp
  | insert a s ha ih =>
    rw [Finset.fold_insert ha]
    generalize Finset.fold IntOp.minsi b g s = v at ih
    obtain ⟨h1, h2⟩ := ih
    unfold IntOp.minsi
    by_cases hlt : (g a).slt v = true
    · rw [if_pos hlt]
      have hlt' : (g a).toInt < v.toInt := by simpa [BitVec.slt] using hlt
      refine ⟨Or.inr ⟨a, Finset.mem_insert_self _ _, rfl⟩, fun i hi => ?_⟩
      rcases Finset.mem_insert.1 hi with rfl | hi
      · exact le_rfl
      · exact hlt'.le.trans (h2 i hi)
    · rw [if_neg hlt]
      have hlt' : v.toInt ≤ (g a).toInt := by simpa [BitVec.slt] using hlt
      refine ⟨?_, fun i hi => ?_⟩
      · rcases h1 with h1 | ⟨i, hi, h1⟩
        · exact Or.inl h1
        · exact Or.inr ⟨i, Finset.mem_insert_of_mem hi, h1⟩
      · rcases Finset.mem_insert.1 hi with rfl | hi
        · exact hlt'
        · exact h2 i hi

/-- A small word read signed. -/
theorem toInt_small (n : Nat) (h : n < 2 ^ 31) : (BitVec.ofNat 32 n).toInt = n := by
  rw [BitVec.toInt_ofNat']
  exact Int.bmod_eq_of_le (by omega) (by omega)

/-- The least position (eight where there is none) at which a value is the maximum is the first greatest position. -/
theorem fold_min_top (f : Fin 8 → EReal) (m : EReal) (hm : m = f (top f)) :
    Finset.fold IntOp.minsi 2147483647#32 (fun x : Fin 8 => if f x = m then BitVec.ofNat 32 x.val else 8#32) Finset.univ
      = BitVec.ofNat 32 (top f).val := by
  subst hm
  obtain ⟨h1, h2⟩ := fold_minsi Finset.univ (fun x : Fin 8 => if f x = f (top f) then BitVec.ofNat 32 x.val else 8#32)
    2147483647#32
  have ht := h2 (top f) (Finset.mem_univ _)
  simp only [if_true] at ht
  rw [toInt_small _ (by omega)] at ht
  generalize Finset.fold IntOp.minsi 2147483647#32 (fun x : Fin 8 => if f x = f (top f) then BitVec.ofNat 32 x.val else 8#32) Finset.univ = v at h1 ht
  have hlt := (top f).isLt
  rcases h1 with rfl | ⟨i, -, hi⟩
  · exact absurd ht (by rw [show (2147483647#32 : BitVec 32).toInt = 2147483647 by decide]; omega)
  · by_cases e : f i = f (top f)
    · simp only [e, if_true] at hi
      rw [hi, toInt_small _ (by omega)] at ht
      have : top f ≤ i := (top_spec f).2 i e
      have : i = top f := by apply Fin.ext; have := Fin.le_def.1 this; omega
      rw [hi, this]
    · simp only [e, if_false] at hi
      rw [hi, show (8#32 : BitVec 32).toInt = 8 by decide] at ht
      omega

/-! ### The fold that keeps a (value, position) pair -/

/-- One step of the fold: the greater value, and on equal values the smaller position. -/
def pick (a b : EReal × BitVec 32) : EReal × BitVec 32 :=
  (if b.1 < a.1 then a.1 else b.1, if b.1 < a.1 ∨ (a.1 = b.1 ∧ a.2.toInt < b.2.toInt) then a.2 else b.2)

/-- What the fold keeps: the greatest value seen, and the first position seen that holds it. -/
def Kept (f : Fin 8 → EReal) (done : Fin 8 → Prop) (r : EReal × BitVec 32) : Prop :=
  (∀ i, done i → f i ≤ r.1) ∧ ∃ k : Fin 8, r.2 = BitVec.ofNat 32 k.val ∧ (r.1 = f k ∨ (r.1 = ⊥ ∧ k = 0))
    ∧ ∀ i, done i → f i = r.1 → k ≤ i

/-- A step keeps it. -/
theorem Kept.step {f : Fin 8 → EReal} {done : Fin 8 → Prop} {r : EReal × BitVec 32} (h : Kept f done r) (i : Fin 8) :
    Kept f (fun j => done j ∨ j = i) (pick r (f i, BitVec.ofNat 32 i.val)) := by
  obtain ⟨h1, k, hk, hv, h2⟩ := h
  have hkt : r.2.toInt = k.val := by rw [hk, toInt_small _ (by omega)]
  have hit : (BitVec.ofNat 32 i.val).toInt = i.val := toInt_small _ (by omega)
  rcases lt_trichotomy (f i) r.1 with hlt | heq | hgt
  · have e : pick r (f i, BitVec.ofNat 32 i.val) = r := by simp [pick, hlt]
    rw [e]
    refine ⟨?_, k, hk, hv, ?_⟩
    · rintro j (hj | rfl)
      · exact h1 j hj
      · exact hlt.le
    · rintro j (hj | rfl) hjr
      · exact h2 j hj hjr
      · exact absurd hjr hlt.ne
  · by_cases hki : k < i
    · have e : pick r (f i, BitVec.ofNat 32 i.val) = r := by
        refine Prod.ext ?_ ?_
        · simp [pick, heq]
        · have : r.2.toInt < (BitVec.ofNat 32 i.val).toInt := by rw [hkt, hit]; exact_mod_cast Fin.lt_def.1 hki
          simp only [pick, heq, this]; simp
      rw [e]
      refine ⟨?_, k, hk, hv, ?_⟩
      · rintro j (hj | rfl)
        · exact h1 j hj
        · exact heq.le
      · rintro j (hj | rfl) hjr
        · exact h2 j hj hjr
        · exact hki.le
    · have e : pick r (f i, BitVec.ofNat 32 i.val) = (f i, BitVec.ofNat 32 i.val) := by
        refine Prod.ext ?_ ?_
        · simp [pick, heq]
        · have : ¬ r.2.toInt < (BitVec.ofNat 32 i.val).toInt := by
            rw [hkt, hit]; have := Fin.le_def.1 (not_lt.1 hki); omega
          simp only [pick, heq, this]; simp
      rw [e]
      refine ⟨?_, i, rfl, Or.inl rfl, ?_⟩
      · rintro j (hj | rfl)
        · exact (h1 j hj).trans heq.ge
        · exact le_rfl
      · rintro j (hj | rfl) hjr
        · exact (not_lt.1 hki).trans (h2 j hj (hjr.trans heq))
        · exact le_rfl
  · have e : pick r (f i, BitVec.ofNat 32 i.val) = (f i, BitVec.ofNat 32 i.val) := by
      have h3 : ¬ f i < r.1 := hgt.le.not_gt
      simp [pick, h3, hgt.ne]
    rw [e]
    refine ⟨?_, i, rfl, Or.inl rfl, ?_⟩
    · rintro j (hj | rfl)
      · exact (h1 j hj).trans hgt.le
      · exact le_rfl
    · rintro j (hj | rfl) hjr
      · exact absurd hjr ((h1 j hj).trans_lt hgt).ne
      · exact le_rfl

/-- The fold over a list of positions. -/
theorem Kept.foldl {f : Fin 8 → EReal} (l : List (Fin 8)) : ∀ {done : Fin 8 → Prop} {r : EReal × BitVec 32}, Kept f done r →
    Kept f (fun j => done j ∨ j ∈ l) (l.foldl (fun r i => pick r (f i, BitVec.ofNat 32 i.val)) r) := by
  induction l with
  | nil => intro done r h; simpa using h
  | cons a l ih =>
    intro done r h
    have := ih (h.step a)
    simpa [or_assoc, List.foldl_cons] using this

/-- The fold over all the positions ends at the first greatest one. -/
theorem foldl_pick (f : Fin 8 → EReal) (l : List (Fin 8)) (hl : ∀ i, i ∈ l) :
    (l.foldl (fun r i => pick r (f i, BitVec.ofNat 32 i.val)) (⊥, 0#32)).2 = BitVec.ofNat 32 (top f).val := by
  have h0 : Kept f (fun _ => False) (⊥, 0#32) := ⟨fun _ h => h.elim, 0, rfl, Or.inr ⟨rfl, rfl⟩, fun _ h => h.elim⟩
  have h := Kept.foldl l h0
  generalize l.foldl (fun r i => pick r (f i, BitVec.ofNat 32 i.val)) (⊥, 0#32) = r at h ⊢
  obtain ⟨h1, k, hk, hv, h2⟩ := h
  have hr : r.1 = f k := by
    rcases hv with hv | ⟨hb, rfl⟩
    · exact hv
    · have := h1 0 (Or.inr (hl 0))
      rw [hb] at this ⊢
      exact (le_bot_iff.1 this).symm
  rw [hk, top_unique (i := k) ⟨fun j => hr ▸ h1 j (Or.inr (hl j)), fun j hj => h2 j (Or.inr (hl j)) (hj.trans hr.symm)⟩]

end Cert.Moe

end
-- ==== Proof.Spec.lean ====
/- What the layer computes, over extended reals, as functions of the router's logits: each token's first and second
   expert, its place in the queue of each, whether it is kept, its two normalised gates, and the log-softmax over
   tokens of the mixed expert sums. Both programs are brought to this form. -/
module

public import proofs.«01_k».proof.Proof.Top

@[expose] public section

noncomputable section

namespace Cert.Moe

open Idealize.ShloMosaic

section
variable (L : Fin 2048 → Fin 8 → EReal)

/-- A token's first expert. -/
def e1 (t : Fin 2048) : Fin 8 := top (L t)
/-- The logits with the first expert's masked by `-∞`. -/
def masked (t : Fin 2048) (e : Fin 8) : EReal := if e = e1 L t then ⊥ else L t e
/-- A token's second expert. -/
def e2 (t : Fin 2048) : Fin 8 := top (masked L t)
/-- The normaliser of a token's softmax over experts. -/
def norm (t : Fin 2048) : EReal := ∑ e, Ideal.exp (L t e - L t (e1 L t))
/-- The softmax over experts. -/
def gate (t : Fin 2048) (e : Fin 8) : EReal := Ideal.div (Ideal.exp (L t e - L t (e1 L t))) (norm L t)
/-- The sum of a token's two gates and the small constant. -/
def den (t : Fin 2048) : EReal := gate L t (e1 L t) + gate L t (e2 L t) + Ideal.ofBits .f32 814313567#32
/-- The normalised gate of the first expert. -/
def n1 (t : Fin 2048) : EReal := Ideal.div (gate L t (e1 L t)) (den L t)
/-- The normalised gate of the second expert. -/
def n2 (t : Fin 2048) : EReal := Ideal.div (gate L t (e2 L t)) (den L t)
end

/-- One at the index, zero elsewhere. -/
def hot (i e : Fin 8) : EReal := if e = i then 1 else 0

/-- How many earlier tokens chose an expert. -/
def ahead (i : Fin 2048 → Fin 8) (t : Fin 2048) (e : Fin 8) : ℕ := (Finset.univ.filter fun s => s < t ∧ i s = e).card
/-- How many tokens chose an expert. -/
def total (i : Fin 2048 → Fin 8) (e : Fin 8) : ℕ := (Finset.univ.filter fun s => i s = e).card

/-- The number of places taken before a token at its first choice. -/
def q1 (i : Fin 2048 → Fin 8) (t : Fin 2048) (e : Fin 8) : ℕ := ahead i t e
/-- The number of places taken before a token at its second choice: all first choices come before. -/
def q2 (i j : Fin 2048 → Fin 8) (t : Fin 2048) (e : Fin 8) : ℕ := ahead j t e + total i e
/-- One while the expert has room, else zero. -/
def keep (n : ℕ) : EReal := if n < 512 then 1 else 0

/-- A token's mixed expert sum. -/
def mixed (L sc : Fin 2048 → Fin 8 → EReal) (t : Fin 2048) : EReal :=
  n1 L t * keep (q1 (e1 L) t (e1 L t)) * sc t (e1 L t)
    + n2 L t * keep (q2 (e1 L) (e2 L) t (e2 L t)) * sc t (e2 L t)

/-- The log-softmax over tokens. -/
def lsm (o : Fin 2048 → EReal) (t : Fin 2048) : EReal :=
  o t - Finset.fold max ⊥ o Finset.univ - Ideal.log (∑ s, Ideal.exp (o s - Finset.fold max ⊥ o Finset.univ))

/-- A token's sum over output features of one expert's affine map, from the arrays: the effective weights applied to the
    token, plus the effective bias. -/
def score (X : Fin 2048 → Fin 1024 → EReal) (W1 : Fin 8 → Fin 1024 → Fin 4096 → EReal) (B1 : Fin 8 → Fin 4096 → EReal)
    (W2 : Fin 8 → Fin 4096 → Fin 1024 → EReal) (B2 : Fin 8 → Fin 1024 → EReal) (t : Fin 2048) (e : Fin 8) : EReal :=
  ∑ k, (∑ h, (∑ d, W2 e h d) * W1 e k h) * X t k + (∑ h, B1 e h * ∑ d, W2 e h d + ∑ d, B2 e d)

/-- The router's logits. -/
def logits (X : Fin 2048 → Fin 1024 → EReal) (Wg : Fin 1024 → Fin 8 → EReal) (t : Fin 2048) (e : Fin 8) : EReal :=
  ∑ k, X t k * Wg k e

end Cert.Moe

end
-- ==== Proof.Count.lean ====
/- The places in the experts' queues: running sums of one-hot rows count tokens, and kept tokens of one expert hold
   different places. -/
module

public import proofs.«01_k».proof.Proof.Spec

@[expose] public section

noncomputable section

namespace Cert.Moe

open Idealize.ShloMosaic

/-- A count as an extended real. -/
abbrev num (n : ℕ) : EReal := ((n : ℝ) : EReal)

/-- `num` of a sum is the sum of the `num`s. -/
theorem num_add (a b : ℕ) : num (a + b) = num a + num b := by
  unfold num; rw [Nat.cast_add, EReal.coe_add]

/-- `num` of a finite sum is the sum of the `num`s. -/
theorem sum_num {ι : Type} (s : Finset ι) (f : ι → ℕ) : num (∑ i ∈ s, f i) = ∑ i ∈ s, num (f i) := by
  induction s using Finset.cons_induction with
  | empty => simp [num]
  | cons a s h ih => rw [Finset.sum_cons, Finset.sum_cons, num_add, ih]

/-- A sum of zeros and ones counts. -/
theorem sum_ite_num (p : Fin 2048 → Prop) [DecidablePred p] :
    (∑ s, if p s then (1 : EReal) else 0) = num (Finset.univ.filter p).card := by
  have h : ∀ s, (if p s then (1 : EReal) else 0) = (((if p s then 1 else 0 : ℕ) : ℝ) : EReal) := fun s => by
    by_cases h : p s <;> simp [h]
  rw [Finset.card_filter]
  simp only [h]
  exact (sum_num _ _).symm

/-- The sum of a column of one-hot rows counts the tokens that chose the expert. -/
theorem sum_hot (i : Fin 2048 → Fin 8) (e : Fin 8) : ∑ s, hot (i s) e = num (total i e) := by
  unfold hot total
  rw [← sum_ite_num]
  exact Finset.sum_congr rfl fun s _ => by simp only [eq_comm]

/-- The running sum with the token's own entry taken off counts the earlier tokens that chose the expert. -/
theorem running_hot (i : Fin 2048 → Fin 8) (t : Fin 2048) (e : Fin 8) :
    (∑ s, if s ≤ t then hot (i s) e else 0) - hot (i t) e = num (ahead i t e) := by
  have hh : hot (i t) e = num (if i t = e then 1 else 0) := by
    unfold hot num
    by_cases h : i t = e
    · simp [h]
    · simp [h, Ne.symm h]
  have hs : (∑ s, if s ≤ t then hot (i s) e else 0) = num (Finset.univ.filter fun s => s ≤ t ∧ i s = e).card := by
    rw [← sum_ite_num]
    refine Finset.sum_congr rfl fun s _ => ?_
    unfold hot
    by_cases h : s ≤ t <;> by_cases h' : i s = e
    · simp [h, h']
    · simp [h, h', Ne.symm h']
    · simp [h]
    · simp [h]
  have hc : (Finset.univ.filter fun s => s ≤ t ∧ i s = e).card = ahead i t e + if i t = e then 1 else 0 := by
    unfold ahead
    have : (Finset.univ.filter fun s => s ≤ t ∧ i s = e)
        = (Finset.univ.filter fun s => s < t ∧ i s = e) ∪ (Finset.univ.filter fun s => s = t ∧ i t = e) := by
      ext s
      simp only [Finset.mem_filter, Finset.mem_univ, true_and, Finset.mem_union]
      constructor
      · rintro ⟨h, h'⟩
        rcases lt_or_eq_of_le h with h | h
        · exact Or.inl ⟨h, h'⟩
        · exact Or.inr ⟨h, h ▸ h'⟩
      · rintro (⟨h, h'⟩ | ⟨h, h'⟩)
        · exact ⟨h.le, h'⟩
        · exact ⟨h.le, h ▸ h'⟩
    rw [this, Finset.card_union_of_disjoint]
    · congr 1
      by_cases h : i t = e
      · simp [h, Finset.filter_eq']
      · simp [h]
    · rw [Finset.disjoint_left]
      intro s h1 h2
      simp only [Finset.mem_filter] at h1 h2
      exact absurd h2.2.1 h1.2.1.ne
  rw [hs, hc, hh, num_add]
  unfold num
  rw [← EReal.coe_add, ← EReal.coe_sub, add_sub_cancel_right]

/-- The order of places follows the order of tokens. -/
theorem ahead_lt (i : Fin 2048 → Fin 8) {s t : Fin 2048} (h : s < t) (e : Fin 8) (hs : i s = e) :
    ahead i s e < ahead i t e := by
  unfold ahead
  refine Finset.card_lt_card ⟨fun u hu => ?_, fun hsub => ?_⟩
  · simp only [Finset.mem_filter, Finset.mem_univ, true_and] at hu ⊢
    exact ⟨hu.1.trans h, hu.2⟩
  · have := hsub (x := s) (by simp [h, hs])
    simp at this

/-- A token's place at an expert it chose first is below the number that chose it. -/
theorem ahead_lt_total (i : Fin 2048 → Fin 8) (t : Fin 2048) : ahead i t (i t) < total i (i t) := by
  unfold ahead total
  refine Finset.card_lt_card ⟨fun u hu => ?_, fun hsub => ?_⟩
  · simp only [Finset.mem_filter, Finset.mem_univ, true_and] at hu ⊢
    exact hu.2
  · have := hsub (x := t) (by simp)
    simp at this

/-- Two tokens with one place at one first expert are the same. -/
theorem ahead_inj (i : Fin 2048 → Fin 8) {s t : Fin 2048} (he : i s = i t) (h : ahead i s (i s) = ahead i t (i t)) : s = t := by
  rcases lt_trichotomy s t with hl | hl | hl
  · have := ahead_lt i hl (i s) rfl
    rw [he] at h this
    omega
  · exact hl
  · have := ahead_lt i hl (i t) rfl
    rw [he] at h
    omega

/-- The slot a token is sent to: its place while there is room, else slot zero. -/
def slot (n : ℕ) : ℕ := if n < 512 then n else 0

/-- A slot lies within the capacity. -/
theorem slot_lt (n : ℕ) : slot n < 512 := by unfold slot; split <;> omega

variable (i j : Fin 2048 → Fin 8)

/-- A kept token's slot at its first expert receives that token's row alone from the first choices. -/
theorem first_first (a : Fin 2048 → EReal) (t : Fin 2048) (ht : q1 i t (i t) < 512) :
    (∑ s, if i s = i t ∧ slot (q1 i s (i s)) = slot (q1 i t (i t)) then a s * keep (q1 i s (i s)) else 0) = a t := by
  rw [Finset.sum_eq_single t]
  · simp [keep, ht]
  · intro s _ hs
    by_cases h : i s = i t ∧ slot (q1 i s (i s)) = slot (q1 i t (i t))
    · rw [if_pos h]
      by_cases hk : q1 i s (i s) < 512
      · refine absurd (ahead_inj i h.1 ?_) hs
        have h2 := h.2
        simp only [slot, hk, ht, if_true] at h2
        exact h2
      · simp [keep, hk]
    · rw [if_neg h]
  · intro h; exact absurd (Finset.mem_univ t) h

/-- It receives nothing from the second choices. -/
theorem first_second (a : Fin 2048 → EReal) (t : Fin 2048) (ht : q1 i t (i t) < 512) :
    (∑ s, if j s = i t ∧ slot (q2 i j s (j s)) = slot (q1 i t (i t)) then a s * keep (q2 i j s (j s)) else 0) = 0 := by
  refine Finset.sum_eq_zero fun s _ => ?_
  by_cases h : j s = i t ∧ slot (q2 i j s (j s)) = slot (q1 i t (i t))
  · rw [if_pos h]
    by_cases hk : q2 i j s (j s) < 512
    · have h2 := h.2
      simp only [slot, hk, ht, if_true] at h2
      have := ahead_lt_total i t
      unfold q1 q2 at h2
      rw [h.1] at h2
      omega
    · simp [keep, hk]
  · rw [if_neg h]

/-- A kept token's slot at its second expert receives nothing from the first choices. -/
theorem second_first (a : Fin 2048 → EReal) (t : Fin 2048) (ht : q2 i j t (j t) < 512) :
    (∑ s, if i s = j t ∧ slot (q1 i s (i s)) = slot (q2 i j t (j t)) then a s * keep (q1 i s (i s)) else 0) = 0 := by
  refine Finset.sum_eq_zero fun s _ => ?_
  by_cases h : i s = j t ∧ slot (q1 i s (i s)) = slot (q2 i j t (j t))
  · rw [if_pos h]
    by_cases hk : q1 i s (i s) < 512
    · have h2 := h.2
      simp only [slot, hk, ht, if_true] at h2
      have := ahead_lt_total i s
      unfold q1 q2 at h2
      rw [h.1] at h2 this
      omega
    · simp [keep, hk]
  · rw [if_neg h]

/-- It receives that token's row alone from the second choices. -/
theorem second_second (a : Fin 2048 → EReal) (t : Fin 2048) (ht : q2 i j t (j t) < 512) :
    (∑ s, if j s = j t ∧ slot (q2 i j s (j s)) = slot (q2 i j t (j t)) then a s * keep (q2 i j s (j s)) else 0) = a t := by
  rw [Finset.sum_eq_single t]
  · simp [keep, ht]
  · intro s _ hs
    by_cases h : j s = j t ∧ slot (q2 i j s (j s)) = slot (q2 i j t (j t))
    · rw [if_pos h]
      by_cases hk : q2 i j s (j s) < 512
      · refine absurd (ahead_inj j h.1 ?_) hs
        have h2 := h.2
        simp only [slot, hk, ht, if_true] at h2
        unfold q2 at h2
        rw [h.1] at h2 ⊢
        omega
      · simp [keep, hk]
    · rw [if_neg h]
  · intro h; exact absurd (Finset.mem_univ t) h

/-- The number 512 as the programs write it. -/
theorem cap : Ideal.ofBits .f32 1140850688#32 = num 512 := by
  simp [Ideal.ofBits, Ideal.ieee, num]
  rw [← EReal.coe_mul]
  norm_num

/-- A place is within the capacity as an extended real exactly when it is as a number. -/
theorem num_lt_cap (n : ℕ) : num n < Ideal.ofBits .f32 1140850688#32 ↔ n < 512 := by
  rw [cap]
  unfold num
  rw [EReal.coe_lt_coe_iff]
  exact_mod_cast Iff.rfl

/-- A row of places times the kept one-hot row sums to the token's slot. -/
theorem sum_slot (n : Fin 8 → ℕ) (i : Fin 8) :
    (∑ e, num (n e) * (hot i e * keep (n e))) = num (slot (n i)) := by
  rw [Finset.sum_eq_single i]
  · unfold hot keep slot
    by_cases h : n i < 512 <;> simp [h, num]
  · intro e _ he
    simp [hot, he]
  · intro h; exact absurd (Finset.mem_univ i) h

/-- The kept one-hot row sums to the keep flag. -/
theorem sum_keep (n : Fin 8 → ℕ) (i : Fin 8) : (∑ e, hot i e * keep (n e)) = keep (n i) := by
  rw [Finset.sum_eq_single i]
  · simp [hot]
  · intro e _ he
    simp [hot, he]
  · intro h; exact absurd (Finset.mem_univ i) h

/-- A row times a one-hot row sums to the entry at the index. -/
theorem sum_hot_mul (f : Fin 8 → EReal) (i : Fin 8) : (∑ e, f e * hot i e) = f i := by
  rw [Finset.sum_eq_single i]
  · simp [hot]
  · intro e _ he
    simp [hot, he]
  · intro h; exact absurd (Finset.mem_univ i) h

/-- A slot as a 32-bit word. -/
theorem fptosi_slot (n : ℕ) : FloatOps.fptosi (F := Ideal) (φ := .f32) 32 (num (slot n)) = BitVec.ofNat 32 (slot n) := by
  have h := slot_lt n
  show Ideal.fptosi 32 (num (slot n)) = _
  unfold Ideal.fptosi num
  rw [Ideal.toIntClamped_coe, if_pos (by positivity), Int.floor_natCast]
  have : max (-((2 ^ (32 - 1) : ℕ) : Int)) (min (((2 ^ (32 - 1) : ℕ) : Int) - 1) ((slot n : ℕ) : Int)) = ((slot n : ℕ) : Int) := by
    norm_num
    omega
  rw [this, BitVec.ofInt_natCast]

end Cert.Moe

end
-- ==== Proof.KerScan.lean ====
/- The kernel's running sum along the tokens by doubling: a step adds to each entry the one `w` places before it, so
   after a step an entry sums twice as many predecessors, and after eleven steps all of them. -/
module

public import proofs.«01_k».proof.Proof.Gen.KernelIdeal.Skeleton
public import proofs.«01_k».proof.Proof.Gen.KernelIdeal
public import proofs.«01_k».proof.Proof.Count
public import Idealize.ShloMosaic.PureOps.Ideal
public import Idealize.ShloMosaic.Lib.Pointwise.Index
public import Idealize.ShloMosaic.Lib.Pointwise

@[expose] public section

set_option maxRecDepth 16384

noncomputable section

namespace Cert.Moe.Ker

open Idealize.ShloMosaic Idealize.SL.Sem Cert.KernelIdeal Cert.KernelIdeal.Gen

/-- One step of the running sum: the entry plus the one `sh` places before it, where there is one. -/
def dbl (sh : BitVec 32) (v : FVec Ideal S8x2048 .f32) : FVec Ideal S8x2048 .f32 :=
  addf v (select (cmpi .sge (iota .tc S8x2048 32 [1] iota_S8x2048_d1_w32) (broadcast S8x2048 sh))
    (dynamicRotate 1 sh none v rotates_S8x2048_d1) (broadcast S8x2048 (Scalar.ofBits .f32 0x00000000#32)))

/-- The sum of the `w` entries that end with entry `t`. -/
def win (v : Fin 2048 → EReal) (w : ℕ) (t : Fin 2048) : EReal := ∑ s, if s ≤ t ∧ t.val < s.val + w then v s else 0

/-- A window of one entry is the entry. -/
theorem win_one (v : Fin 2048 → EReal) (t : Fin 2048) : win v 1 t = v t := by
  unfold win
  rw [Finset.sum_eq_single t]
  · simp
  · intro s _ hs
    refine if_neg fun h => hs (Fin.ext ?_)
    have := Fin.le_def.1 h.1
    omega
  · intro h; exact absurd (Finset.mem_univ t) h

/-- A window of all entries is the running sum. -/
theorem win_all (v : Fin 2048 → EReal) (t : Fin 2048) : win v 2048 t = ∑ s, if s ≤ t then v s else 0 := by
  unfold win
  refine Finset.sum_congr rfl fun s _ => if_congr ?_ rfl rfl
  constructor
  · exact fun h => h.1
  · exact fun h => ⟨h, by omega⟩

/-- Two windows side by side make one of twice the width. -/
theorem win_double (v : Fin 2048 → EReal) (w : ℕ) (t : Fin 2048) :
    win v w t + (if h : w ≤ t.val then win v w ⟨t.val - w, by omega⟩ else 0) = win v (w + w) t := by
  unfold win
  by_cases h : w ≤ t.val
  · rw [dif_pos h, ← Finset.sum_add_distrib]
    refine Finset.sum_congr rfl fun s _ => ?_
    simp only [Fin.le_def]
    by_cases h1 : s.val ≤ t.val ∧ t.val < s.val + w
    · rw [if_pos h1, if_neg (by omega), if_pos (by omega), add_zero]
    · by_cases h2 : s.val ≤ t.val - w ∧ t.val - w < s.val + w
      · rw [if_neg h1, if_pos h2, if_pos (by omega), zero_add]
      · rw [if_neg h1, if_neg h2, if_neg (by omega), zero_add]
  · rw [dif_neg h, add_zero]
    refine Finset.sum_congr rfl fun s _ => if_congr ?_ rfl rfl
    simp only [Fin.le_def]
    omega

/-- A step at an entry. -/
theorem dbl_at (w : ℕ) (hw : w < 2048) (v : FVec Ideal S8x2048 .f32) (e : Fin 8) (t : Fin 2048) :
    (dbl (BitVec.ofNat 32 w) v (ix2 e t) : EReal) = v (ix2 e t) + if h : w ≤ t.val then v (ix2 e ⟨t.val - w, by omega⟩) else 0 := by
  have hc : IntOp.cmpi .sge (BitVec.ofNat 32 t.val) (BitVec.ofNat 32 w) = BitVec.ofBool (decide (w ≤ t.val)) := by
    show BitVec.ofBool (decide ((BitVec.ofNat 32 w).toInt ≤ (BitVec.ofNat 32 t.val).toInt)) = _
    rw [toInt_small w (by omega), toInt_small t.val (by omega)]
    simp only [Nat.cast_le]
  have hr : dynamicRotate 1 (BitVec.ofNat 32 w) none v rotates_S8x2048_d1 (ix2 e t)
      = v (ix2 e ⟨(t.val + 2048 - w) % 2048, Nat.mod_lt _ (by norm_num)⟩) := by
    rw [Pointwise.dynamicRotate_apply]
    refine congrArg v (funext fun b => ?_)
    match b with
    | ⟨0, _⟩ => rfl
    | ⟨1, _⟩ =>
      refine Fin.ext ?_
      show (t.val + 2048 - ((BitVec.ofNat 32 w).toNat + 0) % 2048) % 2048 = (t.val + 2048 - w) % 2048
      rw [BitVec.toNat_ofNat, Nat.mod_eq_of_lt (show w < 2 ^ 32 by omega), add_zero, Nat.mod_eq_of_lt hw]
  have hd : (dbl (BitVec.ofNat 32 w) v (ix2 e t) : EReal) = v (ix2 e t) + Scalar.select (IntOp.cmpi .sge (BitVec.ofNat 32 t.val) (BitVec.ofNat 32 w))
    (dynamicRotate 1 (BitVec.ofNat 32 w) none v rotates_S8x2048_d1 (ix2 e t)) (Ideal.ofBits .f32 0x00000000#32) := by
    unfold dbl
    generalize dynamicRotate 1 (BitVec.ofNat 32 w) none v rotates_S8x2048_d1 = z
    pointwise
  refine hd.trans ?_
  rw [hc, hr]
  refine congrArg (v (ix2 e t) + ·) ?_
  by_cases h : w ≤ t.val
  · rw [dif_pos h]
    have : (t.val + 2048 - w) % 2048 = t.val - w := by omega
    simp [Scalar.select, h, this]
  · rw [dif_neg h]
    simp [Scalar.select, h, Ideal.ofBits, Ideal.ieee]

/-- A step doubles the window. -/
theorem dbl_win (w : ℕ) (hw : w < 2048) (v : FVec Ideal S8x2048 .f32) (u : Fin 8 → Fin 2048 → EReal)
    (h : ∀ e t, (v (ix2 e t) : EReal) = win (u e) w t) (e : Fin 8) (t : Fin 2048) :
    (dbl (BitVec.ofNat 32 w) v (ix2 e t) : EReal) = win (u e) (w + w) t := by
  rw [dbl_at w hw, ← win_double]
  simp only [h]

/-- The eleven steps. -/
def scan (v : FVec Ideal S8x2048 .f32) : FVec Ideal S8x2048 .f32 :=
  dbl 1024#32 (dbl 512#32 (dbl 256#32 (dbl 128#32 (dbl 64#32 (dbl 32#32 (dbl 16#32 (dbl 8#32 (dbl 4#32 (dbl 2#32 (dbl 1#32 v))))))))))

/-- The eleven steps make the running sum. -/
theorem scan_at (v : FVec Ideal S8x2048 .f32) (u : Fin 8 → Fin 2048 → EReal) (h : ∀ e t, (v (ix2 e t) : EReal) = u e t)
    (e : Fin 8) (t : Fin 2048) : (scan v (ix2 e t) : EReal) = ∑ s, if s ≤ t then u e s else 0 := by
  rw [← win_all]
  exact dbl_win 1024 (by norm_num) _ u (dbl_win 512 (by norm_num) _ u (dbl_win 256 (by norm_num) _ u (dbl_win 128 (by norm_num) _ u
    (dbl_win 64 (by norm_num) _ u (dbl_win 32 (by norm_num) _ u (dbl_win 16 (by norm_num) _ u (dbl_win 8 (by norm_num) _ u
    (dbl_win 4 (by norm_num) _ u (dbl_win 2 (by norm_num) _ u (dbl_win 1 (by norm_num) _ u
    (fun e t => (h e t).trans (win_one _ _).symm))))))))))) e t

/-- The first choices' places are the running sum with the entry taken off. -/
theorem places1 (v : FVec Ideal S8x2048 .f32) :
    k2_pay20 v (iota .tc S8x2048 32 [1] iota_S8x2048_d1_w32)
      (k2_pay16 (iota .tc S8x2048 32 [1] iota_S8x2048_d1_w32) (k2_pay15 v) 8#32)
      (k2_pay17 (iota .tc S8x2048 32 [1] iota_S8x2048_d1_w32) (k2_pay15 v) 8#32)
      (k2_pay18 (iota .tc S8x2048 32 [1] iota_S8x2048_d1_w32)) k2_pay19 = subf (scan v) v := rfl

/-- The second choices' places are the running sum with the entry taken off and the first choices' count added. -/
theorem places2 (v : FVec Ideal S8x2048 .f32) (n : FVec Ideal S8x1 .f32) :
    k2_pay24 v n (iota .tc S8x2048 32 [1] iota_S8x2048_d1_w32) (k2_pay22 v) (k2_pay23 v)
      = addf (subf (scan v) v) (broadcastTo S8x2048 n broadcasts_S8x1_S8x2048) := rfl

end Cert.Moe.Ker

end
-- ==== Proof.Alg.lean ====
/- The arithmetic over extended reals: with real logits the gates are real, positive and ordered as the logits, so the
   normalised gates distribute over the sum of an expert's outputs; and an expert's affine maps summed over the output
   features are the effective weights applied to the token. -/
module

public import proofs.«01_k».proof.Proof.Count

@[expose] public section

noncomputable section

namespace Cert.Moe

open Idealize.ShloMosaic

/-- A sum of reals is real. -/
theorem sum_coe {ι : Type} (s : Finset ι) (f : ι → ℝ) : (∑ i ∈ s, (f i : EReal)) = ((∑ i ∈ s, f i : ℝ) : EReal) := by
  induction s using Finset.cons_induction with
  | empty => simp
  | cons a s h ih => rw [Finset.sum_cons, Finset.sum_cons, ih, EReal.coe_add]

section
variable (L : Fin 2048 → Fin 8 → EReal) (l : Fin 2048 → Fin 8 → ℝ) (hL : ∀ t e, L t e = (l t e : EReal))
include hL

/-- The shifted exponentials are those of the reals. -/
theorem exp_shift (t : Fin 2048) (e : Fin 8) :
    Ideal.exp (L t e - L t (e1 L t)) = ((Real.exp (l t e - l t (e1 L t)) : ℝ) : EReal) := by
  rw [hL, hL, ← EReal.coe_sub]
  rfl

/-- A gate is the real softmax. -/
theorem gate_eq (t : Fin 2048) (e : Fin 8) : gate L t e
    = ((Real.exp (l t e - l t (e1 L t)) * (1 / ∑ a, Real.exp (l t a - l t (e1 L t))) : ℝ) : EReal) := by
  have hZ : norm L t = ((∑ a, Real.exp (l t a - l t (e1 L t)) : ℝ) : EReal) := by
    unfold norm
    rw [← sum_coe]
    exact Finset.sum_congr rfl fun a _ => exp_shift L l hL t a
  have hpos : 0 < ∑ a, Real.exp (l t a - l t (e1 L t)) :=
    Finset.sum_pos (fun a _ => Real.exp_pos _) ⟨0, Finset.mem_univ _⟩
  unfold gate
  rw [hZ, Ideal.div_coe hpos.ne', exp_shift L l hL, EReal.coe_mul]

/-- A gate is a positive real. -/
theorem gate_pos (t : Fin 2048) (e : Fin 8) : ∃ r : ℝ, 0 < r ∧ gate L t e = (r : EReal) := by
  have hpos : 0 < ∑ a, Real.exp (l t a - l t (e1 L t)) :=
    Finset.sum_pos (fun a _ => Real.exp_pos _) ⟨0, Finset.mem_univ _⟩
  exact ⟨_, by positivity, gate_eq L l hL t e⟩

/-- The greatest gate stands where the greatest logit does. -/
theorem top_gate (t : Fin 2048) : top (gate L t) = e1 L t := by
  have hpos : 0 < ∑ a, Real.exp (l t a - l t (e1 L t)) :=
    Finset.sum_pos (fun a _ => Real.exp_pos _) ⟨0, Finset.mem_univ _⟩
  refine top_congr fun i j => ?_
  rw [gate_eq L l hL, gate_eq L l hL, hL, hL, EReal.coe_le_coe_iff, EReal.coe_le_coe_iff,
    mul_le_mul_iff_left₀ (by positivity), Real.exp_le_exp]
  exact sub_le_sub_iff_right _

/-- The two experts of a token differ. -/
theorem e2_ne (t : Fin 2048) : e2 L t ≠ e1 L t := by
  intro h
  obtain ⟨e, he⟩ : ∃ e : Fin 8, e ≠ e1 L t := by
    by_cases h0 : e1 L t = 0
    · exact ⟨1, by rw [h0]; decide⟩
    · exact ⟨0, Ne.symm h0⟩
  have hle := (top_spec (masked L t)).1 e
  change masked L t e ≤ masked L t (e2 L t) at hle
  rw [h] at hle
  unfold masked at hle
  rw [if_neg he, if_pos rfl, hL, le_bot_iff] at hle
  exact EReal.coe_ne_bot _ hle

/-- The small constant is a nonnegative real. -/
theorem eps_real : ∃ r : ℝ, 0 ≤ r ∧ Ideal.ofBits .f32 814313567#32 = (r : EReal) := by
  refine ⟨_, ?_, by simp [Ideal.ofBits, Ideal.ieee]; rw [← EReal.coe_mul]⟩
  positivity

/-- The denominator of the normalised gates is a positive real. -/
theorem den_pos (t : Fin 2048) : ∃ r : ℝ, 0 < r ∧ den L t = (r : EReal) := by
  obtain ⟨a, ha, ha'⟩ := gate_pos L l hL t (e1 L t)
  obtain ⟨b, hb, hb'⟩ := gate_pos L l hL t (e2 L t)
  obtain ⟨c, hc, hc'⟩ := eps_real L l hL
  exact ⟨a + b + c, by positivity, by unfold den; rw [ha', hb', hc', EReal.coe_add, EReal.coe_add]⟩

/-- The first normalised gate is a nonnegative real. -/
theorem n1_real (t : Fin 2048) : ∃ r : ℝ, 0 ≤ r ∧ n1 L t = (r : EReal) := by
  obtain ⟨a, ha, ha'⟩ := gate_pos L l hL t (e1 L t)
  obtain ⟨b, hb, hb'⟩ := den_pos L l hL t
  exact ⟨a * (1 / b), by positivity, by unfold n1; rw [ha', hb', Ideal.div_coe hb.ne', EReal.coe_mul]⟩

/-- The second normalised gate is a nonnegative real. -/
theorem n2_real (t : Fin 2048) : ∃ r : ℝ, 0 ≤ r ∧ n2 L t = (r : EReal) := by
  obtain ⟨a, ha, ha'⟩ := gate_pos L l hL t (e2 L t)
  obtain ⟨b, hb, hb'⟩ := den_pos L l hL t
  exact ⟨a * (1 / b), by positivity, by unfold n2; rw [ha', hb', Ideal.div_coe hb.ne', EReal.coe_mul]⟩

/-- Every expert's score weighed by the kept one-hot gates sums to the mixed expert sum. -/
theorem mixed_sum (sc : Fin 2048 → Fin 8 → EReal) (t : Fin 2048) (a b : Fin 8 → ℕ)
    (ha : a (e1 L t) = q1 (e1 L) t (e1 L t)) (hb : b (e2 L t) = q2 (e1 L) (e2 L) t (e2 L t)) :
    (∑ e, sc t e * (hot (e1 L t) e * keep (a e) * n1 L t + hot (e2 L t) e * keep (b e) * n2 L t)) = mixed L sc t := by
  have hne := e2_ne L l hL t
  have hterm : ∀ e, sc t e * (hot (e1 L t) e * keep (a e) * n1 L t + hot (e2 L t) e * keep (b e) * n2 L t)
      = (if e = e1 L t then n1 L t * keep (q1 (e1 L) t (e1 L t)) * sc t (e1 L t) else 0)
        + (if e = e2 L t then n2 L t * keep (q2 (e1 L) (e2 L) t (e2 L t)) * sc t (e2 L t) else 0) := by
    intro e
    unfold hot
    by_cases h : e = e1 L t
    · have h2 : e ≠ e2 L t := fun h' => hne (h' ▸ h)
      rw [if_pos h, if_neg h2, if_pos h, if_neg h2, one_mul, zero_mul, zero_mul, add_zero, add_zero, h, ha,
        mul_comm (sc t _), mul_comm (keep _)]
    · by_cases h2 : e = e2 L t
      · rw [if_neg h, if_pos h2, if_neg h, if_pos h2, one_mul, zero_mul, zero_mul, zero_add, zero_add, h2, hb,
          mul_comm (sc t _), mul_comm (keep _)]
      · rw [if_neg h, if_neg h2, if_neg h, if_neg h2, zero_mul, zero_mul, zero_mul, zero_mul, add_zero, mul_zero]
  rw [Finset.sum_congr rfl fun e _ => hterm e, Finset.sum_add_distrib, Finset.sum_ite_eq', Finset.sum_ite_eq',
    if_pos (Finset.mem_univ _), if_pos (Finset.mem_univ _)]
  rfl

end

/-- A nonnegative real distributes over a sum. -/
theorem mul_sum_real {ι : Type} (s : Finset ι) (c : ℝ) (hc : 0 ≤ c) (f : ι → EReal) :
    (∑ i ∈ s, (c : EReal) * f i) = (c : EReal) * ∑ i ∈ s, f i := by
  induction s using Finset.cons_induction with
  | empty => simp
  | cons a s h ih =>
    rw [Finset.sum_cons, Finset.sum_cons, ih,
      EReal.left_distrib_of_nonneg_of_ne_top (by exact_mod_cast hc) (EReal.coe_ne_top _)]

/-- A kept gate times an expert's outputs, summed, is the kept gate times the score, if the outputs of a kept token sum
    to it. -/
theorem gate_mul_sum (g : EReal) (hg : ∃ r : ℝ, 0 ≤ r ∧ g = (r : EReal)) (n : ℕ) (y : Fin 1024 → EReal) (s : EReal)
    (h : n < 512 → ∑ d, y d = s) : (∑ d, g * keep n * y d) = g * keep n * s := by
  by_cases hn : n < 512
  · obtain ⟨r, hr, rfl⟩ := hg
    simp only [keep, hn, if_true, mul_one]
    rw [mul_sum_real _ r hr, h hn]
  · simp [keep, hn]

/-- An expert's two affine maps summed over the output features: the effective weights and the effective bias. -/
theorem expert_sum (x : Fin 1024 → EReal) (w1 : Fin 1024 → Fin 4096 → EReal) (b1 : Fin 4096 → EReal)
    (w2 : Fin 4096 → Fin 1024 → EReal) (b2 : Fin 1024 → EReal)
    (hx : ∀ k, ∃ r : ℝ, x k = (r : EReal)) (hw1 : ∀ k h, ∃ r : ℝ, w1 k h = (r : EReal)) (hb1 : ∀ h, ∃ r : ℝ, b1 h = (r : EReal))
    (hw2 : ∀ h d, ∃ r : ℝ, w2 h d = (r : EReal)) :
    (∑ d, ((∑ h, (∑ k, x k * w1 k h + b1 h) * w2 h d) + b2 d))
      = ∑ k, (∑ h, (∑ d, w2 h d) * w1 k h) * x k + (∑ h, b1 h * ∑ d, w2 h d + ∑ d, b2 d) := by
  choose x' hx using hx
  choose w1' hw1 using hw1
  choose b1' hb1 using hb1
  choose w2' hw2 using hw2
  rw [Finset.sum_add_distrib, ← add_assoc]
  refine congrArg (· + ∑ d, b2 d) ?_
  simp only [hx, hw1, hb1, hw2, sum_coe, ← EReal.coe_mul, ← EReal.coe_add]
  refine congrArg _ ?_
  rw [Finset.sum_comm]
  have h1 : ∀ h, (∑ d, (∑ k, x' k * w1' k h + b1' h) * w2' h d)
      = (∑ k, (∑ d, w2' h d) * w1' k h * x' k) + b1' h * ∑ d, w2' h d := by
    intro h
    rw [← Finset.mul_sum, add_mul, Finset.sum_mul]
    refine congrArg (· + _) (Finset.sum_congr rfl fun k _ => ?_)
    ring
  rw [Finset.sum_congr rfl fun h _ => h1 h, Finset.sum_add_distrib, Finset.sum_comm]
  refine congrArg (· + _) (Finset.sum_congr rfl fun k _ => ?_)
  rw [Finset.sum_mul]

end Cert.Moe

end
-- ==== Proof.KerRoute.lean ====
/- The routing kernel's values at an entry, in the layer's terms: the logits, the one-hot rows of the two choices, the
   places in the queues, the normalised gates, and the log-softmax over tokens of the mixed expert sums. -/
module

public import proofs.«01_k».proof.Proof.KerScan
public import proofs.«01_k».proof.Proof.Alg
public import proofs.«01_k».proof.Proof.Gen.KernelIdeal.Frame
public import Idealize.ShloMosaic.Lib.Pipeline.ValueKit

@[expose] public section

set_option maxRecDepth 16384

noncomputable section

namespace Cert.Moe.Ker

open Idealize.ShloMosaic Idealize.SL.Sem Cert.KernelIdeal Cert.KernelIdeal.Gen

/-- A one-hot entry as the kernel writes it. -/
theorem hot_ker (i e : Fin 8) : FloatOps.sitofp (F := Ideal) .f32
    (BitVec.setWidth 32 (IntOp.cmpi .eq (BitVec.ofNat 32 e.val) (BitVec.ofNat 32 i.val))) = hot i e := by
  have h : BitVec.setWidth 32 (IntOp.cmpi .eq (BitVec.ofNat 32 e.val) (BitVec.ofNat 32 i.val)) = if e = i then 1#32 else 0#32 := by
    revert i e; decide
  rw [h]
  unfold hot
  by_cases h : e = i
  · rw [if_pos h, if_pos h]
    show (((1#32 : BitVec 32).toInt : ℝ) : EReal) = 1
    simp
  · rw [if_neg h, if_neg h]
    show (((0#32 : BitVec 32).toInt : ℝ) : EReal) = 0
    simp

/-- A keep flag as the kernel writes it. -/
theorem keep_ker (n : ℕ) : FloatOps.sitofp (F := Ideal) .f32
    (BitVec.setWidth 32 (BitVec.ofBool (decide (num n < Ideal.ofBits .f32 1140850688#32)))) = keep n := by
  simp only [num_lt_cap]
  unfold keep
  by_cases h : n < 512
  · rw [if_pos h, decide_eq_true h]
    show (((BitVec.setWidth 32 (BitVec.ofBool true)).toInt : ℝ) : EReal) = 1
    simp
  · rw [if_neg h, decide_eq_false h]
    show (((BitVec.setWidth 32 (BitVec.ofBool false)).toInt : ℝ) : EReal) = 0
    simp

/-- The masked logit as the kernel writes it. -/
theorem mask_ker (L : Fin 2048 → Fin 8 → EReal) (t : Fin 2048) (e : Fin 8) :
    (if (0 : EReal) < hot (e1 L t) e then Ideal.ofBits .f32 0xFF800000#32 else L t e) = masked L t e := by
  unfold hot masked
  by_cases h : e = e1 L t
  · rw [if_pos h, if_pos zero_lt_one, if_pos h]
    exact neg_inf
  · rw [if_neg h, if_neg (lt_irrefl _), if_neg h]

section logits
variable (v0 : Vec Ideal S2048x1024 .f32) (v2 : Vec Ideal S16x1024 .f32) (L : Fin 2048 → Fin 8 → EReal)
  (hL : ∀ e t, (k2_pay3 v0 v2 (ix2 e t) : EReal) = L t e)
include hL

/-- The greatest logit of a token. -/
theorem max_at (t : Fin 2048) : (k2_pay5 v0 v2 (ix2 0 t) : EReal) = L t (e1 L t) := by
  have h : (k2_pay5 v0 v2 (ix2 0 t) : EReal) = Finset.fold max (Ideal.ofBits .f32 0xFF800000#32) (fun x => k2_pay3 v0 v2 (ix2 x t)) Finset.univ := by
    simp only [k2_pay5]
    pointwise
  rw [h, neg_inf]
  simp only [hL]
  exact fold_max _

/-- The one-hot rows of the first choices. -/
theorem first_at (e : Fin 8) (t : Fin 2048) : (k2_pay6 v0 v2 (ix2 e t) : EReal) = hot (e1 L t) e := by
  simp only [k2_pay6]
  pointwise
  rw [max_at v0 v2 L hL]
  simp only [hL]
  rw [fold_min_top (L t) (L t (e1 L t)) rfl]
  exact hot_ker _ _

/-- Where a masked logit is the greatest of its token. -/
theorem second_max_at (e : Fin 8) (t : Fin 2048) :
    k2_pay7 v0 v2 (ix2 e t) = BitVec.ofBool (decide (masked L t e = masked L t (e2 L t))) := by
  simp only [k2_pay7]
  pointwise
  simp only [first_at v0 v2 L hL, hL]
  simp only [mask_ker]
  rw [neg_inf, fold_max]
  rfl

/-- The one-hot rows of the second choices. -/
theorem second_at (e : Fin 8) (t : Fin 2048) :
    (k2_pay8 (F := Ideal) (iota .tc S8x2048 32 [0] iota_S8x2048_d0_w32) (k2_pay7 v0 v2) 8#32 (ix2 e t) : EReal) = hot (e2 L t) e := by
  simp only [k2_pay8]
  pointwise
  simp only [second_max_at v0 v2 L hL]
  have hf : (fun x : Fin 8 => Scalar.select (BitVec.ofBool (decide (masked L t x = masked L t (e2 L t)))) (BitVec.ofNat 32 x.val) 8#32)
      = fun x => if masked L t x = masked L t (e2 L t) then BitVec.ofNat 32 x.val else 8#32 := by
    funext x
    by_cases h : masked L t x = masked L t (e2 L t) <;> simp [Scalar.select, h]
  rw [hf, fold_min_top (masked L t) (masked L t (e2 L t)) rfl]
  exact hot_ker _ _

end logits

section gates
variable (L : Fin 2048 → Fin 8 → EReal) (v15 : FVec Ideal S8x2048 .f32) (v19 : IVec S8x2048 32) (v21 : FVec Ideal S1x2048 .f32)
  (v31 : FVec Ideal S8x2048 .f32) (v39 : IVec S8x2048 1) (c : BitVec 32)
  (h15 : ∀ e t, (v15 (ix2 e t) : EReal) = L t e) (h21 : ∀ t, (v21 (ix2 0 t) : EReal) = L t (e1 L t))
  (h31 : ∀ e t, (v31 (ix2 e t) : EReal) = hot (e1 L t) e)
  (h47 : ∀ e t, (k2_pay8 (F := Ideal) v19 v39 c (ix2 e t) : EReal) = hot (e2 L t) e)

include h15 h21 in
/-- The softmax over experts. -/
theorem gate_at (e : Fin 8) (t : Fin 2048) : (k2_pay9 v15 v21 (ix2 e t) : EReal) = gate L t e := by
  simp only [k2_pay9]
  pointwise
  simp only [h15, h21]
  rfl

include h15 h21 h31 in
/-- The first choice's gate. -/
theorem gate1_at (t : Fin 2048) : (k2_pay10 v15 v21 v31 (ix2 0 t) : EReal) = gate L t (e1 L t) := by
  simp only [k2_pay10]
  pointwise
  simp only [gate_at L v15 v21 h15 h21, h31]
  exact sum_hot_mul _ _

include h15 h21 h47 in
/-- The second choice's gate. -/
theorem gate2_at (t : Fin 2048) : (k2_pay11 v15 v19 v21 v39 c (ix2 0 t) : EReal) = gate L t (e2 L t) := by
  simp only [k2_pay11]
  pointwise
  simp only [gate_at L v15 v21 h15 h21, h47]
  exact sum_hot_mul _ _

include h15 h21 h31 h47 in
/-- The sum of the two gates and the small constant. -/
theorem den_at (t : Fin 2048) : (k2_pay12 v15 v19 v21 v31 v39 c (ix2 0 t) : EReal) = den L t := by
  simp only [k2_pay12]
  pointwise
  rw [gate1_at L v15 v21 v31 h15 h21 h31, gate2_at L v15 v19 v21 v39 c h15 h21 h47]
  rfl

include h15 h21 h31 h47 in
/-- The first normalised gate. -/
theorem n1_at (t : Fin 2048) : (k2_pay13 v15 v19 v21 v31 v39 c (ix2 0 t) : EReal) = n1 L t := by
  simp only [k2_pay13]
  pointwise
  rw [gate1_at L v15 v21 v31 h15 h21 h31, den_at L v15 v19 v21 v31 v39 c h15 h21 h31 h47]
  rfl

include h15 h21 h31 h47 in
/-- The second normalised gate. -/
theorem n2_at (t : Fin 2048) : (k2_pay14 v15 v19 v21 v31 v39 c (ix2 0 t) : EReal) = n2 L t := by
  simp only [k2_pay14]
  pointwise
  rw [gate2_at L v15 v19 v21 v39 c h15 h21 h47, den_at L v15 v19 v21 v31 v39 c h15 h21 h31 h47]
  rfl

end gates

section places
variable (i j : Fin 2048 → Fin 8) (v31 v47 : FVec Ideal S8x2048 .f32)
  (h31 : ∀ e t, (v31 (ix2 e t) : EReal) = hot (i t) e) (h47 : ∀ e t, (v47 (ix2 e t) : EReal) = hot (j t) e)

include h31 in
/-- A first choice's place. -/
theorem q1_at (e : Fin 8) (t : Fin 2048) : (subf (scan v31) v31 (ix2 e t) : EReal) = num (q1 i t e) := by
  show (scan v31 (ix2 e t) : EReal) - v31 (ix2 e t) = _
  rw [scan_at v31 (fun e t => hot (i t) e) h31, h31]
  exact running_hot i t e

include h31 h47 in
/-- A second choice's place. -/
theorem q2_at (e : Fin 8) (t : Fin 2048) :
    (addf (subf (scan v47) v47) (broadcastTo S8x2048 (k2_pay21 v31) broadcasts_S8x1_S8x2048) (ix2 e t) : EReal)
      = num (q2 i j t e) := by
  have h : (broadcastTo S8x2048 (k2_pay21 v31) broadcasts_S8x1_S8x2048 (ix2 e t) : EReal) = num (total i e) := by
    simp only [k2_pay21]
    pointwise
    simp only [h31]
    exact sum_hot i e
  show (subf (scan v47) v47 (ix2 e t) : EReal) + broadcastTo S8x2048 (k2_pay21 v31) broadcasts_S8x1_S8x2048 (ix2 e t) = _
  rw [h, q1_at j v47 h47]
  exact (num_add _ _).symm
end places

/-- The kernel's row: the log-softmax over tokens of the mixed expert sums. -/
theorem row_at (L : Fin 2048 → Fin 8 → EReal) (l : Fin 2048 → Fin 8 → ℝ) (hl : ∀ t e, L t e = (l t e : EReal))
    (S : Fin 2048 → Fin 8 → EReal) (sc v31 v47 : FVec Ideal S8x2048 .f32) (g1 g2 : FVec Ideal S1x2048 .f32)
    (p1 p2 : FVec Ideal S8x2048 .f32) (hs : ∀ e t, (sc (ix2 e t) : EReal) = S t e)
    (h31 : ∀ e t, (v31 (ix2 e t) : EReal) = hot (e1 L t) e) (h47 : ∀ e t, (v47 (ix2 e t) : EReal) = hot (e2 L t) e)
    (hg1 : ∀ t, (g1 (ix2 0 t) : EReal) = n1 L t) (hg2 : ∀ t, (g2 (ix2 0 t) : EReal) = n2 L t)
    (hp1 : ∀ e t, (p1 (ix2 e t) : EReal) = num (q1 (e1 L) t e))
    (hp2 : ∀ e t, (p2 (ix2 e t) : EReal) = num (q2 (e1 L) (e2 L) t e)) (t : Fin 2048) :
    (k2_pay1 sc v31 v47 g1 g2 p1 p2 k2_pay25 (ix2 0 t) : EReal) = lsm (mixed L S) t := by
  simp only [k2_pay1]
  pointwise
  have hc : ∀ e s, (k2_pay25 (F := Ideal) (ix2 e s) : EReal) = Ideal.ofBits .f32 1140850688#32 := fun e s => rfl
  simp only [hs, h31, h47, hg1, hg2, hc, hp1, hp2, keep_ker, neg_inf]
  simp only [mixed_sum L l hl S _ (fun e => q1 (e1 L) _ e) (fun e => q2 (e1 L) (e2 L) _ e) rfl rfl]
  rfl

/-- The kernel's output block: the log-softmax over tokens of the mixed expert sums. -/
theorem out_at (L : Fin 2048 → Fin 8 → EReal) (l : Fin 2048 → Fin 8 → ℝ) (hl : ∀ t e, L t e = (l t e : EReal))
    (S : Fin 2048 → Fin 8 → EReal) (x0 : Vec Ideal S2048x1024 .f32) (x1 : Vec Ideal S16x1024 .f32) (x2 : Vec Ideal S8x4096 .f32)
    (x3 : Vec Ideal S8x1024 .f32) (x4 : Vec Ideal S8x4096 .f32)
    (hL : ∀ e t, (k2_pay3 x0 x1 (ix2 e t) : EReal) = L t e)
    (hS : ∀ e t, (k2_pay4 x0 x1 x2 x4 x3 (ix2 e t) : EReal) = S t e) (t : Fin 2048) :
    (out2_5 x0 x1 x2 x3 x4 (ix2 0 t) : EReal) = lsm (mixed L S) t := by
  unfold_out out2_5
  frame_out
  rw [places1, places2]
  have h31 := first_at x0 x1 L hL
  have h47 := second_at x0 x1 L hL
  have h21 := max_at x0 x1 L hL
  exact row_at L l hl S _ _ _ _ _ _ _ hS h31 h47 (n1_at L _ _ _ _ _ _ hL h21 h31 h47) (n2_at L _ _ _ _ _ _ hL h21 h31 h47)
    (q1_at (e1 L) _ h31) (q2_at (e1 L) (e2 L) _ _ h31 h47) t

end Cert.Moe.Ker

end
-- ==== Proof.KerArrays.lean ====
/- What the kernel's first two launches leave in their arrays: each expert's second weights summed over output features,
   and these sums applied to its first weights. -/
module

public import proofs.«01_k».proof.Proof.Gen.KernelIdeal.Frame
public import Idealize.ShloMosaic.PureOps.Ideal
public import Idealize.ShloMosaic.Lib.Pointwise.Index
public import Idealize.ShloMosaic.Lib.Pointwise
public import Idealize.ShloMosaic.Lib.Pipeline.ValueKit

@[expose] public section

set_option maxRecDepth 16384

noncomputable section

namespace Cert.Moe.Ker

open Idealize.ShloMosaic Idealize.ShloMosaic.TcCoe Idealize.SL Idealize.SL.Sem Cert.KernelIdeal Cert.KernelIdeal.Gen

/-- A block of the first launch: the rows' sums. -/
theorem rows_at (v : Vec Ideal S1x2048x1024 .f32) (w : Fin 2048 → Fin 1024 → EReal)
    (hv : ∀ h d, (v (ix3 0 h d) : EReal) = w h d) (h : Fin 2048) :
    (k0_pay1 v (ix3 0 0 h) : EReal) = ∑ d, w h d := by
  simp only [k0_pay1]
  pointwise
  simp only [hv]

/-- A block of the second launch: the rows weighed. -/
theorem weighed_at (v : Vec Ideal S1x512x4096 .f32) (s : Vec Ideal S1x1x4096 .f32) (w : Fin 512 → Fin 4096 → EReal)
    (u : Fin 4096 → EReal) (hv : ∀ d h, (v (ix3 0 d h) : EReal) = w d h) (hs : ∀ h, (s (ix3 0 0 h) : EReal) = u h)
    (d : Fin 512) : (k1_pay1 v s (ix3 0 0 d) : EReal) = ∑ h, u h * w d h := by
  simp only [k1_pay1]
  pointwise
  simp only [hs, hv]

/-- Where the first launch's windows stand at a point of its grid. -/
theorem place0_0 : ∀ t : Fin grid0.N, win0_0.index t = ![(grid0.coords t 0).val, (grid0.coords t 1).val, 0] := by decide +kernel
/-- Where the first launch's result blocks lie. -/
theorem place0_1 : ∀ t : Fin grid0.N, win0_1.index t = ![(grid0.coords t 0).val, 0, (grid0.coords t 1).val] := by decide +kernel
/-- Where the second launch's windows stand at a point of its grid. -/
theorem place1_0 : ∀ t : Fin grid1.N, win1_0.index t = ![(grid1.coords t 0).val, (grid1.coords t 1).val, 0] := by decide +kernel
/-- Where the second launch's sum blocks lie. -/
theorem place1_1 : ∀ t : Fin grid1.N, win1_1.index t = ![(grid1.coords t 0).val, 0, 0] := by decide +kernel
/-- Where the second launch's result blocks lie. -/
theorem place1_2 : ∀ t : Fin grid1.N, win1_2.index t = ![(grid1.coords t 0).val, 0, (grid1.coords t 1).val] := by decide +kernel

variable (V : (c : Dev nD) → (b : Ref sig .tc) → Buf (Elt Ideal) ((c : Thread nD τ).loc b)) (c : Dev nD)

/-- The first launch's array: each expert's second weights summed over output features. -/
theorem sums_at (w : Fin 8 → Fin 4096 → Fin 1024 → EReal)
    (hw : ∀ e h d, (V c main_arg4 (ix3 e h d) : Elt Ideal .f32) = w e h d) (e : Fin 8) (h : Fin 4096) :
    ((dat0 V c).arrAt 1 cfg0.N (ix3 e 0 h) : Elt Ideal .f32) = ∑ d, w e h d := by
  have hG : (dat0 V c).arrAt 1 cfg0.N = fun i : S8x1x4096.Idx => (∑ d, w (i 0) (i 2) d : EReal) := by
    refine (dat0 V c).arrAt_eq_of_covers 1 _ (by decide +kernel) fun t hf y => ?_
    blk_simp
    rw [after0_1]
    frame_out
    obtain ⟨q, rfl⟩ : ∃ q : Fin 2048, y = ix3 0 0 q := ⟨y 2, by
      funext a
      match a with
      | ⟨0, _⟩ => exact Fin.eq_zero _
      | ⟨1, _⟩ => exact Fin.eq_zero _
      | ⟨2, _⟩ => rfl⟩
    refine rows_at _ (fun h d => w (((View.whole main_v1).slice (win0_1.rect t)).emb (ix3 0 0 h) 0)
      (((View.whole main_v1).slice (win0_1.rect t)).emb (ix3 0 0 h) 2) d) (fun h d => ?_) q
    blk_simp [iblk0]
    refine Eq.trans (congrArg (V c main_arg4) (funext fun a => Fin.ext ?_)) (hw _ _ d)
    match a with
    | ⟨0, _⟩ => blk_simp [place0_0, place0_1]
    | ⟨1, _⟩ => blk_simp [place0_0, place0_1]
    | ⟨2, _⟩ => blk_simp [place0_0, place0_1]
  rw [hG]
  rfl

/-- The second launch's array: the sums applied to each expert's first weights. -/
theorem weights_at (u : Fin 8 → Fin 4096 → EReal) (w : Fin 8 → Fin 1024 → Fin 4096 → EReal)
    (hu : ∀ e h, (V c main_v1 (ix3 e 0 h) : Elt Ideal .f32) = u e h)
    (hw : ∀ e d h, (V c main_arg2 (ix3 e d h) : Elt Ideal .f32) = w e d h) (e : Fin 8) (d : Fin 1024) :
    ((dat1 V c).arrAt 2 cfg1.N (ix3 e 0 d) : Elt Ideal .f32) = ∑ h, u e h * w e d h := by
  have hG : (dat1 V c).arrAt 2 cfg1.N = fun i : S8x1x1024.Idx => (∑ h, u (i 0) h * w (i 0) (i 2) h : EReal) := by
    refine (dat1 V c).arrAt_eq_of_covers 2 _ (by decide +kernel) fun t hf y => ?_
    blk_simp
    rw [after1_2]
    frame_out
    obtain ⟨q, rfl⟩ : ∃ q : Fin 512, y = ix3 0 0 q := ⟨y 2, by
      funext a
      match a with
      | ⟨0, _⟩ => exact Fin.eq_zero _
      | ⟨1, _⟩ => exact Fin.eq_zero _
      | ⟨2, _⟩ => rfl⟩
    refine weighed_at _ _ (fun d h => w (((View.whole main_v2).slice (win1_2.rect t)).emb (ix3 0 0 d) 0)
      (((View.whole main_v2).slice (win1_2.rect t)).emb (ix3 0 0 d) 2) h)
      (fun h => u (((View.whole main_v2).slice (win1_2.rect t)).emb (ix3 0 0 q) 0) h) (fun d h => ?_) (fun h => ?_) q
    · blk_simp [iblk1]
      refine Eq.trans (congrArg (V c main_arg2) (funext fun a => Fin.ext ?_)) (hw _ _ h)
      match a with
      | ⟨0, _⟩ => blk_simp [place1_0, place1_2]
      | ⟨1, _⟩ => blk_simp [place1_0, place1_2]
      | ⟨2, _⟩ => blk_simp [place1_0, place1_2]
    · blk_simp [iblk1]
      refine Eq.trans (congrArg (V c main_v1) (funext fun a => Fin.ext ?_)) (hu _ h)
      match a with
      | ⟨0, _⟩ => blk_simp [place1_1, place1_2]
      | ⟨1, _⟩ => blk_simp [place1_1, place1_2]
      | ⟨2, _⟩ => blk_simp [place1_1, place1_2]
  rw [hG]
  rfl

end Cert.Moe.Ker

end
-- ==== Proof.KerValue.lean ====
/- The kernel's result: the log-softmax over tokens of the mixed expert sums, from the arguments. -/
module

public import proofs.«01_k».proof.Proof.KerRoute
public import proofs.«01_k».proof.Proof.KerArrays
public import Idealize.ShloMosaic.Lib.StableHlo.ReadAt

@[expose] public section

set_option maxRecDepth 16384

noncomputable section

namespace Cert.Moe.Ker

open Idealize.ShloMosaic Idealize.ShloMosaic.TcCoe Idealize.SL Idealize.SL.Sem Cert.KernelIdeal Cert.KernelIdeal.Gen

section host
variable (V : Valuation τ sig (Elt Ideal))

/-- The flattened tokens. -/
theorem tokens_at (t : Fin 2048) (k : Fin 1024) :
    (StableHlo.after hostOps0 V (Proc.devRef .tc main_v0) (ix2 t k) : Elt Ideal .f32) = V (Proc.devRef .tc main_arg0) (ix3 0 t k) := by
  after_reads_at

/-- The stacked weights' upper half: the router's. -/
theorem stack_upper_at (e : Fin 8) (k : Fin 1024) :
    (StableHlo.after hostOps2 V (Proc.devRef .tc main_v5) (ix2 ⟨e.val, by omega⟩ k) : Elt Ideal .f32) = V (Proc.devRef .tc main_arg1) (ix2 k e) := by
  after_reads_at

/-- The stacked weights' lower half: the experts' effective weights. -/
theorem stack_lower_at (e : Fin 8) (k : Fin 1024) :
    (StableHlo.after hostOps2 V (Proc.devRef .tc main_v5) (ix2 ⟨8 + e.val, by omega⟩ k) : Elt Ideal .f32) = V (Proc.devRef .tc main_v2) (ix3 e 0 k) := by
  after_reads_at

/-- The sums as a matrix. -/
theorem sums_flat_at (e : Fin 8) (h : Fin 4096) :
    (StableHlo.after hostOps2 V (Proc.devRef .tc main_v6) (ix2 e h) : Elt Ideal .f32) = V (Proc.devRef .tc main_v1) (ix3 e 0 h) := by
  after_reads_at

end host

/-- The logits the routing kernel computes. -/
theorem logits_at (v0 : Vec Ideal S2048x1024 .f32) (v2 : Vec Ideal S16x1024 .f32) (x : Fin 2048 → Fin 1024 → EReal)
    (g : Fin 1024 → Fin 8 → EReal) (hx : ∀ t k, (v0 (ix2 t k) : EReal) = x t k)
    (hg : ∀ (e : Fin 8) k, (v2 (ix2 ⟨e.val, by omega⟩ k) : EReal) = g k e) (e : Fin 8) (t : Fin 2048) :
    (k2_pay3 v0 v2 (ix2 e t) : EReal) = logits x g t e := by
  simp only [k2_pay3, k2_pay2]
  pointwise
  simp only [hx, hg]
  unfold logits
  exact Finset.sum_congr rfl fun k _ => mul_comm _ _

/-- The expert sums the routing kernel computes. -/
theorem score_at (v0 : Vec Ideal S2048x1024 .f32) (v2 : Vec Ideal S16x1024 .f32) (v5 v6 : Vec Ideal S8x4096 .f32)
    (v11 : Vec Ideal S8x1024 .f32) (x : Fin 2048 → Fin 1024 → EReal) (w1 : Fin 8 → Fin 1024 → Fin 4096 → EReal)
    (b1 : Fin 8 → Fin 4096 → EReal) (w2 : Fin 8 → Fin 4096 → Fin 1024 → EReal) (b2 : Fin 8 → Fin 1024 → EReal)
    (hx : ∀ t k, (v0 (ix2 t k) : EReal) = x t k)
    (hw : ∀ (e : Fin 8) k, (v2 (ix2 ⟨8 + e.val, by omega⟩ k) : EReal) = ∑ h, (∑ d, w2 e h d) * w1 e k h)
    (hb1 : ∀ e h, (v5 (ix2 e h) : EReal) = b1 e h) (hs : ∀ e h, (v6 (ix2 e h) : EReal) = ∑ d, w2 e h d)
    (hb2 : ∀ e d, (v11 (ix2 e d) : EReal) = b2 e d) (e : Fin 8) (t : Fin 2048) :
    (k2_pay4 v0 v2 v5 v6 v11 (ix2 e t) : EReal) = score x w1 b1 w2 b2 t e := by
  simp only [k2_pay4, k2_pay2]
  pointwise
  simp only [hx, hw, hb1, hs, hb2]
  rfl

section region
variable (V : (c : Dev nD) → (b : Ref sig .tc) → Buf (Elt Ideal) ((c : Thread nD τ).loc b)) (c : Dev nD)
  (x : Fin 2048 → Fin 1024 → EReal) (g : Fin 1024 → Fin 8 → EReal) (w1 : Fin 8 → Fin 1024 → Fin 4096 → EReal)
  (b1 : Fin 8 → Fin 4096 → EReal) (w2 : Fin 8 → Fin 4096 → Fin 1024 → EReal) (b2 : Fin 8 → Fin 1024 → EReal)

/-! The routing launch's input blocks are the whole arrays. -/

/-- Window 0's block starts at the array's corner. -/
theorem corner2_0 : ∀ (t : Fin grid2.N) (a : Fin 2), win2_0.index t a = 0 := by decide +kernel

/-- Window 0's block is its whole array. -/
theorem blk2_0 (t : Fin cfg2.N) (y : S2048x1024.Idx) : (iblk2 V c 0 t y : Elt Ideal .f32) = V c main_v0 y := by
  blk_simp [iblk2]
  refine congrArg (V c main_v0) (funext fun a => Fin.ext ?_)
  match a with
  | ⟨0, _⟩ => blk_simp; exact (congrArg (· * _ + _) (corner2_0 t 0)).trans (by simp)
  | ⟨1, _⟩ => blk_simp; exact (congrArg (· * _ + _) (corner2_0 t 1)).trans (by simp)

/-- Window 1's block starts at the array's corner. -/
theorem corner2_1 : ∀ (t : Fin grid2.N) (a : Fin 2), win2_1.index t a = 0 := by decide +kernel

/-- Window 1's block is its whole array. -/
theorem blk2_1 (t : Fin cfg2.N) (y : S16x1024.Idx) : (iblk2 V c 1 t y : Elt Ideal .f32) = V c main_v5 y := by
  blk_simp [iblk2]
  refine congrArg (V c main_v5) (funext fun a => Fin.ext ?_)
  match a with
  | ⟨0, _⟩ => blk_simp; exact (congrArg (· * _ + _) (corner2_1 t 0)).trans (by simp)
  | ⟨1, _⟩ => blk_simp; exact (congrArg (· * _ + _) (corner2_1 t 1)).trans (by simp)

/-- Window 2's block starts at the array's corner. -/
theorem corner2_2 : ∀ (t : Fin grid2.N) (a : Fin 2), win2_2.index t a = 0 := by decide +kernel

/-- Window 2's block is its whole array. -/
theorem blk2_2 (t : Fin cfg2.N) (y : S8x4096.Idx) : (iblk2 V c 2 t y : Elt Ideal .f32) = V c main_arg3 y := by
  blk_simp [iblk2]
  refine congrArg (V c main_arg3) (funext fun a => Fin.ext ?_)
  match a with
  | ⟨0, _⟩ => blk_simp; exact (congrArg (· * _ + _) (corner2_2 t 0)).trans (by simp)
  | ⟨1, _⟩ => blk_simp; exact (congrArg (· * _ + _) (corner2_2 t 1)).trans (by simp)

/-- Window 3's block starts at the array's corner. -/
theorem corner2_3 : ∀ (t : Fin grid2.N) (a : Fin 2), win2_3.index t a = 0 := by decide +kernel

/-- Window 3's block is its whole array. -/
theorem blk2_3 (t : Fin cfg2.N) (y : S8x1024.Idx) : (iblk2 V c 3 t y : Elt Ideal .f32) = V c main_arg5 y := by
  blk_simp [iblk2]
  refine congrArg (V c main_arg5) (funext fun a => Fin.ext ?_)
  match a with
  | ⟨0, _⟩ => blk_simp; exact (congrArg (· * _ + _) (corner2_3 t 0)).trans (by simp)
  | ⟨1, _⟩ => blk_simp; exact (congrArg (· * _ + _) (corner2_3 t 1)).trans (by simp)

/-- Window 4's block starts at the array's corner. -/
theorem corner2_4 : ∀ (t : Fin grid2.N) (a : Fin 2), win2_4.index t a = 0 := by decide +kernel

/-- Window 4's block is its whole array. -/
theorem blk2_4 (t : Fin cfg2.N) (y : S8x4096.Idx) : (iblk2 V c 4 t y : Elt Ideal .f32) = V c main_v6 y := by
  blk_simp [iblk2]
  refine congrArg (V c main_v6) (funext fun a => Fin.ext ?_)
  match a with
  | ⟨0, _⟩ => blk_simp; exact (congrArg (· * _ + _) (corner2_4 t 0)).trans (by simp)
  | ⟨1, _⟩ => blk_simp; exact (congrArg (· * _ + _) (corner2_4 t 1)).trans (by simp)

/-- The result's block starts at the array's corner. -/
theorem corner2_5 : ∀ (t : Fin grid2.N) (a : Fin 2), win2_5.index t a = 0 := by decide +kernel

/-- The routing launch's array. -/
theorem routed_at (hx : ∀ t k, (V c main_v0 (ix2 t k) : Elt Ideal .f32) = x t k)
    (hg : ∀ (e : Fin 8) k, (V c main_v5 (ix2 ⟨e.val, by omega⟩ k) : Elt Ideal .f32) = g k e)
    (hw : ∀ (e : Fin 8) k, (V c main_v5 (ix2 ⟨8 + e.val, by omega⟩ k) : Elt Ideal .f32) = ∑ h, (∑ d, w2 e h d) * w1 e k h)
    (hb1 : ∀ e h, (V c main_arg3 (ix2 e h) : Elt Ideal .f32) = b1 e h)
    (hs : ∀ e h, (V c main_v6 (ix2 e h) : Elt Ideal .f32) = ∑ d, w2 e h d)
    (hb2 : ∀ e d, (V c main_arg5 (ix2 e d) : Elt Ideal .f32) = b2 e d)
    (l : Fin 2048 → Fin 8 → ℝ) (hl : ∀ t e, logits x g t e = (l t e : EReal)) (t : Fin 2048) :
    ((dat2 V c).arrAt 5 cfg2.N (ix2 0 t) : Elt Ideal .f32) = lsm (mixed (logits x g) (score x w1 b1 w2 b2)) t := by
  have hG : (dat2 V c).arrAt 5 cfg2.N = fun i : S1x2048.Idx => (lsm (mixed (logits x g) (score x w1 b1 w2 b2)) (i 1) : EReal) := by
    refine (dat2 V c).arrAt_eq_of_covers 5 _ (by decide +kernel) fun t hf y => ?_
    blk_simp
    rw [after2_5]
    obtain ⟨q, rfl⟩ : ∃ q : Fin 2048, y = ix2 0 q := ⟨y 1, by
      funext a
      match a with
      | ⟨0, _⟩ => exact Fin.eq_zero _
      | ⟨1, _⟩ => rfl⟩
    refine (out_at (logits x g) l hl (score x w1 b1 w2 b2) (iblk2 V c 0 t) (iblk2 V c 1 t) (iblk2 V c 2 t) (iblk2 V c 3 t)
      (iblk2 V c 4 t)
      (logits_at _ _ x g (fun _ _ => (blk2_0 V c t _).trans (hx _ _)) (fun _ _ => (blk2_1 V c t _).trans (hg _ _)))
      (score_at _ _ _ _ _ x w1 b1 w2 b2 (fun _ _ => (blk2_0 V c t _).trans (hx _ _)) (fun _ _ => (blk2_1 V c t _).trans (hw _ _))
        (fun _ _ => (blk2_2 V c t _).trans (hb1 _ _)) (fun _ _ => (blk2_4 V c t _).trans (hs _ _))
        (fun _ _ => (blk2_3 V c t _).trans (hb2 _ _))) q).trans ?_
    refine congrArg (lsm _) (Fin.ext ?_)
    blk_simp
    simp [corner2_5 t 1]
  rw [hG]
  rfl
end region

/-- The kernel's result from its arguments. -/
theorem result_at (m : (ℓ : Loc nD τ sig) → Buf (Elt Ideal) ℓ) (ρ : Dev nD → PrngReg) (c : Dev nD)
    (x : Fin 2048 → Fin 1024 → EReal) (g : Fin 1024 → Fin 8 → EReal) (w1 : Fin 8 → Fin 1024 → Fin 4096 → EReal)
    (b1 : Fin 8 → Fin 4096 → EReal) (w2 : Fin 8 → Fin 4096 → Fin 1024 → EReal) (b2 : Fin 8 → Fin 1024 → EReal)
    (hx : ∀ t k, (m ((c : Thread nD τ).loc main_arg0) (ix3 0 t k) : Elt Ideal .f32) = x t k)
    (hg : ∀ k e, (m ((c : Thread nD τ).loc main_arg1) (ix2 k e) : Elt Ideal .f32) = g k e)
    (hw1 : ∀ e k h, (m ((c : Thread nD τ).loc main_arg2) (ix3 e k h) : Elt Ideal .f32) = w1 e k h)
    (hb1 : ∀ e h, (m ((c : Thread nD τ).loc main_arg3) (ix2 e h) : Elt Ideal .f32) = b1 e h)
    (hw2 : ∀ e h d, (m ((c : Thread nD τ).loc main_arg4) (ix3 e h d) : Elt Ideal .f32) = w2 e h d)
    (hb2 : ∀ e d, (m ((c : Thread nD τ).loc main_arg5) (ix2 e d) : Elt Ideal .f32) = b2 e d)
    (l : Fin 2048 → Fin 8 → ℝ) (hl : ∀ t e, logits x g t e = (l t e : EReal)) (t : Fin 2048) :
    (W5 m ρ c (Proc.devRef .tc main_v7) (ix2 0 t) : Elt Ideal .f32) = lsm (mixed (logits x g) (score x w1 b1 w2 b2)) t := by
  have hsum : ∀ e h, (V2 m ρ c main_v1 (ix3 e 0 h) : Elt Ideal .f32) = ∑ d, w2 e h d := fun e h =>
    (congrFun (W2_arr m ρ c 1) (ix3 e 0 h)).trans (sums_at (V1 m ρ) c w2
      (fun e h d => (congrFun (W1_args m ρ c main_arg4 (by decide)) (ix3 e h d)).trans (hw2 e h d)) e h)
  have hsum3 : ∀ e h, (V3 m ρ c main_v1 (ix3 e 0 h) : Elt Ideal .f32) = ∑ d, w2 e h d := fun e h =>
    (congrFun (W3_of m ρ c main_v1 (by decide)) (ix3 e 0 h)).trans (hsum e h)
  have heff : ∀ e k, (V3 m ρ c main_v2 (ix3 e 0 k) : Elt Ideal .f32) = ∑ h, (∑ d, w2 e h d) * w1 e k h := fun e k =>
    (congrFun (W3_arr m ρ c 2) (ix3 e 0 k)).trans (weights_at (V2 m ρ) c (fun e h => ∑ d, w2 e h d) w1 hsum
      (fun e k h => (congrFun (W2_args m ρ c main_arg2 (by decide)) (ix3 e k h)).trans (hw1 e k h)) e k)
  have h0 : V4 m ρ c main_v0 = V1 m ρ c main_v0 := ((W4_of m ρ c main_v0 (by decide)).trans (W3_of m ρ c main_v0 (by decide))).trans
    (W2_of m ρ c main_v0 (by decide))
  refine (congrFun (W5_arr m ρ c 5) (ix2 0 t)).trans (routed_at (V4 m ρ) c x g w1 b1 w2 b2
    (fun t k => (congrFun h0 (ix2 t k)).trans ((tokens_at (W0 m ρ c) t k).trans (hx t k)))
    (fun e k => (stack_upper_at (W3 m ρ c) e k).trans ((congrFun (W3_args m ρ c main_arg1 (by decide)) (ix2 k e)).trans (hg k e)))
    (fun e k => (stack_lower_at (W3 m ρ c) e k).trans (heff e k))
    (fun e h => (congrFun (W4_args m ρ c main_arg3 (by decide)) (ix2 e h)).trans (hb1 e h))
    (fun e h => (sums_flat_at (W3 m ρ c) e h).trans (hsum3 e h))
    (fun e d => (congrFun (W4_args m ρ c main_arg5 (by decide)) (ix2 e d)).trans (hb2 e d)) l hl t)

end Cert.Moe.Ker

end
-- ==== Proof.RefOps.lean ====
/- The reference program as one list of operations, cut where the computation has a natural boundary, and its run:
   every execution ends with each buffer holding what the list leaves in it. -/
module

public import proofs.«01_k».proof.Proof.Gen.ReferenceIdeal
public import Idealize.ShloMosaic.PureOps.Ideal
public import Idealize.ShloMosaic.Adequacy
public import Idealize.ShloMosaic.Lib.Claim
public import Idealize.ShloMosaic.Lib.StableHlo.RunRead

@[expose] public section

set_option maxRecDepth 16384

noncomputable section

namespace Cert.Moe.Ref

open Idealize.ShloMosaic Idealize.SL.Sem Cert.ReferenceIdeal
open Cert.ReferenceIdeal.Facts₀ Cert.ReferenceIdeal.Facts

variable {F : FTy → Type} [FloatOps F]

/-- The operations computing the logits and their softmax. -/
abbrev ops0 : List (HloOp τ sig (Elt F)) :=
  [ StableHlo.reshape main_arg0 main_v0 (rfl : (.f32 : EltTy) = .f32) shapeCasts_S1x2048x1024_S2048x1024,
    StableHlo.binary main_v0 main_arg1 main_v1 ((fun l r => Host.dotGeneral dot_S2048x1024_S1024x8_S2048x8_1_0_0_1_n_n none l r) : (⟨S2048x1024, .f32⟩ : BufTy).Contents (Elt F) → (⟨S1024x8, .f32⟩ : BufTy).Contents (Elt F) → (⟨S2048x8, .f32⟩ : BufTy).Contents (Elt F)),
    StableHlo.nullary main_cst (constant S_ .f32 0xFF800000#32),
    StableHlo.binary main_v1 main_cst main_v2 ((fun x v => Host.reduce FloatOps.maximumf x v reducesTo_S2048x8_S2048_d1 h_S_) : (⟨S2048x8, .f32⟩ : BufTy).Contents (Elt F) → (⟨S_, .f32⟩ : BufTy).Contents (Elt F) → (⟨S2048, .f32⟩ : BufTy).Contents (Elt F)),
    StableHlo.nullary main_cst_0 (constant S_ .f32 0xFF800000#32),
    StableHlo.unary main_cst_0 main_v3 (broadcastInDim S2048 ![] bcast_S_S2048 : (⟨S_, .f32⟩ : BufTy).Contents (Elt F) → (⟨S2048, .f32⟩ : BufTy).Contents (Elt F)),
    StableHlo.binary main_v3 main_v2 main_v4 (maximumf : (⟨S2048, .f32⟩ : BufTy).Contents (Elt F) → (⟨S2048, .f32⟩ : BufTy).Contents (Elt F) → (⟨S2048, .f32⟩ : BufTy).Contents (Elt F)),
    StableHlo.unary main_v4 main_v5 (broadcastInDim S2048x1 ![0] bcast_S2048_S2048x1_0 : (⟨S2048, .f32⟩ : BufTy).Contents (Elt F) → (⟨S2048x1, .f32⟩ : BufTy).Contents (Elt F)),
    StableHlo.unary main_v5 main_v6 (broadcastInDim S2048x8 ![0, 1] bcast_S2048x1_S2048x8_0_1 : (⟨S2048x1, .f32⟩ : BufTy).Contents (Elt F) → (⟨S2048x8, .f32⟩ : BufTy).Contents (Elt F)),
    StableHlo.binary main_v1 main_v6 main_v7 (subf : (⟨S2048x8, .f32⟩ : BufTy).Contents (Elt F) → (⟨S2048x8, .f32⟩ : BufTy).Contents (Elt F) → (⟨S2048x8, .f32⟩ : BufTy).Contents (Elt F)),
    StableHlo.unary main_v7 main_v8 (Host.exp : (⟨S2048x8, .f32⟩ : BufTy).Contents (Elt F) → (⟨S2048x8, .f32⟩ : BufTy).Contents (Elt F)),
    StableHlo.nullary main_cst_1 (constant S_ .f32 0x00000000#32),
    StableHlo.binary main_v8 main_cst_1 main_v9 ((fun x v => Host.reduceAdd x v reducesTo_S2048x8_S2048_d1 h_S_) : (⟨S2048x8, .f32⟩ : BufTy).Contents (Elt F) → (⟨S_, .f32⟩ : BufTy).Contents (Elt F) → (⟨S2048, .f32⟩ : BufTy).Contents (Elt F)),
    StableHlo.unary main_v9 main_v10 (broadcastInDim S2048x1 ![0] bcast_S2048_S2048x1_0 : (⟨S2048, .f32⟩ : BufTy).Contents (Elt F) → (⟨S2048x1, .f32⟩ : BufTy).Contents (Elt F)),
    StableHlo.unary main_v10 main_v11 (broadcastInDim S2048x8 ![0, 1] bcast_S2048x1_S2048x8_0_1 : (⟨S2048x1, .f32⟩ : BufTy).Contents (Elt F) → (⟨S2048x8, .f32⟩ : BufTy).Contents (Elt F)),
    StableHlo.binary main_v8 main_v11 main_v12 (Host.divf : (⟨S2048x8, .f32⟩ : BufTy).Contents (Elt F) → (⟨S2048x8, .f32⟩ : BufTy).Contents (Elt F) → (⟨S2048x8, .f32⟩ : BufTy).Contents (Elt F)) ]

/-- The operations computing the first expert of each token and its one-hot row. -/
abbrev ops1 : List (HloOp τ sig (Elt F)) :=
  [ StableHlo.TRef.nullary main_call0.v0 (iotaInDim S2048x8 32 1),
    StableHlo.TRef.nullary main_call0.cst (constant S_ .f32 0xFF800000#32),
    StableHlo.TRef.nullary main_call0.c (constantI S_ 32 0#32),
    StableHlo.TRef.quaternary (.of main_v12 : StableHlo.TRef sig ⟨S2048x8, .f32⟩) main_call0.v0 main_call0.cst main_call0.c main_call0.v1_0 (fun x y u v j => (Host.argReduce reducer_argmax_f32_i32 x y u v reducesTo_S2048x8_S2048_d1 h_S_ j).1),
    StableHlo.TRef.quaternary (.of main_v12 : StableHlo.TRef sig ⟨S2048x8, .f32⟩) main_call0.v0 main_call0.cst main_call0.c main_call0.v1_1 (fun x y u v j => (Host.argReduce reducer_argmax_f32_i32 x y u v reducesTo_S2048x8_S2048_d1 h_S_ j).2),
    StableHlo.TRef.unary (.of main_v13 : StableHlo.TRef sig ⟨S2048, .i32⟩) main_call1.v0 (broadcastInDim S2048x1 ![0] bcast_S2048_S2048x1_0),
    StableHlo.TRef.nullary main_call1.v1 (iotaInDim S1x8 32 1),
    StableHlo.TRef.unary main_call1.v0 main_call1.v2 (broadcastInDim S2048x8 ![0, 1] bcast_S2048x1_S2048x8_0_1),
    StableHlo.TRef.unary main_call1.v1 main_call1.v3 (broadcastInDim S2048x8 ![0, 1] bcast_S1x8_S2048x8_0_1),
    StableHlo.TRef.binary main_call1.v2 main_call1.v3 main_call1.v4 (cmpi .eq),
    StableHlo.TRef.unary main_call1.v4 main_call1.v5 (uitofp .f32) ]

/-- The operations computing the second expert of each token and its one-hot row. -/
abbrev ops2 : List (HloOp τ sig (Elt F)) :=
  [ StableHlo.nullary main_cst_2 (constant S_ .f32 0x00000000#32),
    StableHlo.unary main_cst_2 main_v15 (broadcastInDim S2048x8 ![] bcast_S_S2048x8 : (⟨S_, .f32⟩ : BufTy).Contents (Elt F) → (⟨S2048x8, .f32⟩ : BufTy).Contents (Elt F)),
    StableHlo.binary main_v14 main_v15 main_v16 (cmpf .ogt : (⟨S2048x8, .f32⟩ : BufTy).Contents (Elt F) → (⟨S2048x8, .f32⟩ : BufTy).Contents (Elt F) → (⟨S2048x8, .i1⟩ : BufTy).Contents (Elt F)),
    StableHlo.nullary main_cst_3 (constant S_ .f32 0xFF800000#32),
    StableHlo.TRef.unary (.of main_cst_3 : StableHlo.TRef sig ⟨S_, .f32⟩) main_call2.v0 id,
    StableHlo.TRef.unary main_call2.v0 main_call2.v1 (broadcastInDim S2048x8 ![] bcast_S_S2048x8),
    StableHlo.TRef.ternary (.of main_v16 : StableHlo.TRef sig ⟨S2048x8, .i1⟩) main_call2.v1 (.of main_v1 : StableHlo.TRef sig ⟨S2048x8, .f32⟩) main_call2.v2 select,
    StableHlo.TRef.nullary main_call3.v0 (iotaInDim S2048x8 32 1),
    StableHlo.TRef.nullary main_call3.cst (constant S_ .f32 0xFF800000#32),
    StableHlo.TRef.nullary main_call3.c (constantI S_ 32 0#32),
    StableHlo.TRef.quaternary (.of main_v17 : StableHlo.TRef sig ⟨S2048x8, .f32⟩) main_call3.v0 main_call3.cst main_call3.c main_call3.v1_0 (fun x y u v j => (Host.argReduce reducer_argmax_f32_i32 x y u v reducesTo_S2048x8_S2048_d1 h_S_ j).1),
    StableHlo.TRef.quaternary (.of main_v17 : StableHlo.TRef sig ⟨S2048x8, .f32⟩) main_call3.v0 main_call3.cst main_call3.c main_call3.v1_1 (fun x y u v j => (Host.argReduce reducer_argmax_f32_i32 x y u v reducesTo_S2048x8_S2048_d1 h_S_ j).2),
    StableHlo.TRef.unary (.of main_v18 : StableHlo.TRef sig ⟨S2048, .i32⟩) main_call4.v0 (broadcastInDim S2048x1 ![0] bcast_S2048_S2048x1_0),
    StableHlo.TRef.nullary main_call4.v1 (iotaInDim S1x8 32 1),
    StableHlo.TRef.unary main_call4.v0 main_call4.v2 (broadcastInDim S2048x8 ![0, 1] bcast_S2048x1_S2048x8_0_1),
    StableHlo.TRef.unary main_call4.v1 main_call4.v3 (broadcastInDim S2048x8 ![0, 1] bcast_S1x8_S2048x8_0_1),
    StableHlo.TRef.binary main_call4.v2 main_call4.v3 main_call4.v4 (cmpi .eq),
    StableHlo.TRef.unary main_call4.v4 main_call4.v5 (uitofp .f32) ]

/-- The operations computing the two normalised gates. -/
abbrev ops3 : List (HloOp τ sig (Elt F)) :=
  [ StableHlo.binary main_v12 main_v14 main_v20 (mulf : (⟨S2048x8, .f32⟩ : BufTy).Contents (Elt F) → (⟨S2048x8, .f32⟩ : BufTy).Contents (Elt F) → (⟨S2048x8, .f32⟩ : BufTy).Contents (Elt F)),
    StableHlo.nullary main_cst_4 (constant S_ .f32 0x00000000#32),
    StableHlo.binary main_v20 main_cst_4 main_v21 ((fun x v => Host.reduceAdd x v reducesTo_S2048x8_S2048_d1 h_S_) : (⟨S2048x8, .f32⟩ : BufTy).Contents (Elt F) → (⟨S_, .f32⟩ : BufTy).Contents (Elt F) → (⟨S2048, .f32⟩ : BufTy).Contents (Elt F)),
    StableHlo.binary main_v12 main_v19 main_v22 (mulf : (⟨S2048x8, .f32⟩ : BufTy).Contents (Elt F) → (⟨S2048x8, .f32⟩ : BufTy).Contents (Elt F) → (⟨S2048x8, .f32⟩ : BufTy).Contents (Elt F)),
    StableHlo.nullary main_cst_5 (constant S_ .f32 0x00000000#32),
    StableHlo.binary main_v22 main_cst_5 main_v23 ((fun x v => Host.reduceAdd x v reducesTo_S2048x8_S2048_d1 h_S_) : (⟨S2048x8, .f32⟩ : BufTy).Contents (Elt F) → (⟨S_, .f32⟩ : BufTy).Contents (Elt F) → (⟨S2048, .f32⟩ : BufTy).Contents (Elt F)),
    StableHlo.binary main_v21 main_v23 main_v24 (addf : (⟨S2048, .f32⟩ : BufTy).Contents (Elt F) → (⟨S2048, .f32⟩ : BufTy).Contents (Elt F) → (⟨S2048, .f32⟩ : BufTy).Contents (Elt F)),
    StableHlo.nullary main_cst_6 (constant S_ .f32 0x3089705F#32),
    StableHlo.unary main_cst_6 main_v25 (broadcastInDim S2048 ![] bcast_S_S2048 : (⟨S_, .f32⟩ : BufTy).Contents (Elt F) → (⟨S2048, .f32⟩ : BufTy).Contents (Elt F)),
    StableHlo.binary main_v24 main_v25 main_v26 (addf : (⟨S2048, .f32⟩ : BufTy).Contents (Elt F) → (⟨S2048, .f32⟩ : BufTy).Contents (Elt F) → (⟨S2048, .f32⟩ : BufTy).Contents (Elt F)),
    StableHlo.binary main_v21 main_v26 main_v27 (Host.divf : (⟨S2048, .f32⟩ : BufTy).Contents (Elt F) → (⟨S2048, .f32⟩ : BufTy).Contents (Elt F) → (⟨S2048, .f32⟩ : BufTy).Contents (Elt F)),
    StableHlo.binary main_v23 main_v26 main_v28 (Host.divf : (⟨S2048, .f32⟩ : BufTy).Contents (Elt F) → (⟨S2048, .f32⟩ : BufTy).Contents (Elt F) → (⟨S2048, .f32⟩ : BufTy).Contents (Elt F)) ]

/-- The operations computing the two running positions inside an expert. -/
abbrev ops4 : List (HloOp τ sig (Elt F)) :=
  [ StableHlo.TRef.nullary main_call5.call0.cst (constant S_ .f32 0x00000000#32),
    StableHlo.TRef.unary main_call5.call0.cst main_call5.call0.v0 (broadcastInDim S_ ![] bcast_S_S_),
    StableHlo.TRef.binary (.of main_v14 : StableHlo.TRef sig ⟨S2048x8, .f32⟩) main_call5.call0.v0 main_call5.call0.v1 (fun x v => Host.reduceWindowAdd ![2048, 1] ![1, 1] ![2047, 0] ![0, 0] x v reduceWindows_S2048x8_S2048x8_w2048s1p2047_0_w1s1p0_0 h_S_),
    StableHlo.binary main_v29 main_v14 main_v30 (subf : (⟨S2048x8, .f32⟩ : BufTy).Contents (Elt F) → (⟨S2048x8, .f32⟩ : BufTy).Contents (Elt F) → (⟨S2048x8, .f32⟩ : BufTy).Contents (Elt F)),
    StableHlo.TRef.nullary main_call6.call0.cst (constant S_ .f32 0x00000000#32),
    StableHlo.TRef.unary main_call6.call0.cst main_call6.call0.v0 (broadcastInDim S_ ![] bcast_S_S_),
    StableHlo.TRef.binary (.of main_v19 : StableHlo.TRef sig ⟨S2048x8, .f32⟩) main_call6.call0.v0 main_call6.call0.v1 (fun x v => Host.reduceWindowAdd ![2048, 1] ![1, 1] ![2047, 0] ![0, 0] x v reduceWindows_S2048x8_S2048x8_w2048s1p2047_0_w1s1p0_0 h_S_),
    StableHlo.binary main_v31 main_v19 main_v32 (subf : (⟨S2048x8, .f32⟩ : BufTy).Contents (Elt F) → (⟨S2048x8, .f32⟩ : BufTy).Contents (Elt F) → (⟨S2048x8, .f32⟩ : BufTy).Contents (Elt F)),
    StableHlo.nullary main_cst_7 (constant S_ .f32 0x00000000#32),
    StableHlo.binary main_v14 main_cst_7 main_v33 ((fun x v => Host.reduceAdd x v reducesTo_S2048x8_S8_d0 h_S_) : (⟨S2048x8, .f32⟩ : BufTy).Contents (Elt F) → (⟨S_, .f32⟩ : BufTy).Contents (Elt F) → (⟨S8, .f32⟩ : BufTy).Contents (Elt F)),
    StableHlo.unary main_v33 main_v34 (broadcastInDim S1x8 ![1] bcast_S8_S1x8_1 : (⟨S8, .f32⟩ : BufTy).Contents (Elt F) → (⟨S1x8, .f32⟩ : BufTy).Contents (Elt F)),
    StableHlo.unary main_v34 main_v35 (broadcastInDim S2048x8 ![0, 1] bcast_S1x8_S2048x8_0_1 : (⟨S1x8, .f32⟩ : BufTy).Contents (Elt F) → (⟨S2048x8, .f32⟩ : BufTy).Contents (Elt F)),
    StableHlo.binary main_v32 main_v35 main_v36 (addf : (⟨S2048x8, .f32⟩ : BufTy).Contents (Elt F) → (⟨S2048x8, .f32⟩ : BufTy).Contents (Elt F) → (⟨S2048x8, .f32⟩ : BufTy).Contents (Elt F)) ]

/-- The operations computing the kept tokens and their slots. -/
abbrev ops5 : List (HloOp τ sig (Elt F)) :=
  [ StableHlo.nullary main_cst_8 (constant S_ .f32 0x44000000#32),
    StableHlo.unary main_cst_8 main_v37 (broadcastInDim S2048x8 ![] bcast_S_S2048x8 : (⟨S_, .f32⟩ : BufTy).Contents (Elt F) → (⟨S2048x8, .f32⟩ : BufTy).Contents (Elt F)),
    StableHlo.binary main_v30 main_v37 main_v38 (cmpf .olt : (⟨S2048x8, .f32⟩ : BufTy).Contents (Elt F) → (⟨S2048x8, .f32⟩ : BufTy).Contents (Elt F) → (⟨S2048x8, .i1⟩ : BufTy).Contents (Elt F)),
    StableHlo.unary main_v38 main_v39 (uitofp .f32 : (⟨S2048x8, .i1⟩ : BufTy).Contents (Elt F) → (⟨S2048x8, .f32⟩ : BufTy).Contents (Elt F)),
    StableHlo.binary main_v14 main_v39 main_v40 (mulf : (⟨S2048x8, .f32⟩ : BufTy).Contents (Elt F) → (⟨S2048x8, .f32⟩ : BufTy).Contents (Elt F) → (⟨S2048x8, .f32⟩ : BufTy).Contents (Elt F)),
    StableHlo.nullary main_cst_9 (constant S_ .f32 0x44000000#32),
    StableHlo.unary main_cst_9 main_v41 (broadcastInDim S2048x8 ![] bcast_S_S2048x8 : (⟨S_, .f32⟩ : BufTy).Contents (Elt F) → (⟨S2048x8, .f32⟩ : BufTy).Contents (Elt F)),
    StableHlo.binary main_v36 main_v41 main_v42 (cmpf .olt : (⟨S2048x8, .f32⟩ : BufTy).Contents (Elt F) → (⟨S2048x8, .f32⟩ : BufTy).Contents (Elt F) → (⟨S2048x8, .i1⟩ : BufTy).Contents (Elt F)),
    StableHlo.unary main_v42 main_v43 (uitofp .f32 : (⟨S2048x8, .i1⟩ : BufTy).Contents (Elt F) → (⟨S2048x8, .f32⟩ : BufTy).Contents (Elt F)),
    StableHlo.binary main_v19 main_v43 main_v44 (mulf : (⟨S2048x8, .f32⟩ : BufTy).Contents (Elt F) → (⟨S2048x8, .f32⟩ : BufTy).Contents (Elt F) → (⟨S2048x8, .f32⟩ : BufTy).Contents (Elt F)),
    StableHlo.binary main_v30 main_v40 main_v45 (mulf : (⟨S2048x8, .f32⟩ : BufTy).Contents (Elt F) → (⟨S2048x8, .f32⟩ : BufTy).Contents (Elt F) → (⟨S2048x8, .f32⟩ : BufTy).Contents (Elt F)),
    StableHlo.nullary main_cst_10 (constant S_ .f32 0x00000000#32),
    StableHlo.binary main_v45 main_cst_10 main_v46 ((fun x v => Host.reduceAdd x v reducesTo_S2048x8_S2048_d1 h_S_) : (⟨S2048x8, .f32⟩ : BufTy).Contents (Elt F) → (⟨S_, .f32⟩ : BufTy).Contents (Elt F) → (⟨S2048, .f32⟩ : BufTy).Contents (Elt F)),
    StableHlo.unary main_v46 main_v47 (fptosi 32 : (⟨S2048, .f32⟩ : BufTy).Contents (Elt F) → (⟨S2048, .i32⟩ : BufTy).Contents (Elt F)),
    StableHlo.binary main_v36 main_v44 main_v48 (mulf : (⟨S2048x8, .f32⟩ : BufTy).Contents (Elt F) → (⟨S2048x8, .f32⟩ : BufTy).Contents (Elt F) → (⟨S2048x8, .f32⟩ : BufTy).Contents (Elt F)),
    StableHlo.nullary main_cst_11 (constant S_ .f32 0x00000000#32),
    StableHlo.binary main_v48 main_cst_11 main_v49 ((fun x v => Host.reduceAdd x v reducesTo_S2048x8_S2048_d1 h_S_) : (⟨S2048x8, .f32⟩ : BufTy).Contents (Elt F) → (⟨S_, .f32⟩ : BufTy).Contents (Elt F) → (⟨S2048, .f32⟩ : BufTy).Contents (Elt F)),
    StableHlo.unary main_v49 main_v50 (fptosi 32 : (⟨S2048, .f32⟩ : BufTy).Contents (Elt F) → (⟨S2048, .i32⟩ : BufTy).Contents (Elt F)),
    StableHlo.nullary main_cst_12 (constant S_ .f32 0x00000000#32),
    StableHlo.binary main_v40 main_cst_12 main_v51 ((fun x v => Host.reduceAdd x v reducesTo_S2048x8_S2048_d1 h_S_) : (⟨S2048x8, .f32⟩ : BufTy).Contents (Elt F) → (⟨S_, .f32⟩ : BufTy).Contents (Elt F) → (⟨S2048, .f32⟩ : BufTy).Contents (Elt F)),
    StableHlo.nullary main_cst_13 (constant S_ .f32 0x00000000#32),
    StableHlo.binary main_v44 main_cst_13 main_v52 ((fun x v => Host.reduceAdd x v reducesTo_S2048x8_S2048_d1 h_S_) : (⟨S2048x8, .f32⟩ : BufTy).Contents (Elt F) → (⟨S_, .f32⟩ : BufTy).Contents (Elt F) → (⟨S2048, .f32⟩ : BufTy).Contents (Elt F)) ]

/-- The operations computing the first slots as index pairs, and what goes there. -/
abbrev ops6 : List (HloOp τ sig (Elt F)) :=
  [ StableHlo.nullary main_cst_14 (constant S_ .f32 0x00000000#32),
    StableHlo.unary main_cst_14 main_v53 (broadcastInDim S8x512x1024 ![] bcast_S_S8x512x1024 : (⟨S_, .f32⟩ : BufTy).Contents (Elt F) → (⟨S8x512x1024, .f32⟩ : BufTy).Contents (Elt F)),
    StableHlo.unary main_v51 main_v54 (broadcastInDim S2048x1 ![0] bcast_S2048_S2048x1_0 : (⟨S2048, .f32⟩ : BufTy).Contents (Elt F) → (⟨S2048x1, .f32⟩ : BufTy).Contents (Elt F)),
    StableHlo.unary main_v54 main_v55 (broadcastInDim S2048x1024 ![0, 1] bcast_S2048x1_S2048x1024_0_1 : (⟨S2048x1, .f32⟩ : BufTy).Contents (Elt F) → (⟨S2048x1024, .f32⟩ : BufTy).Contents (Elt F)),
    StableHlo.binary main_v0 main_v55 main_v56 (mulf : (⟨S2048x1024, .f32⟩ : BufTy).Contents (Elt F) → (⟨S2048x1024, .f32⟩ : BufTy).Contents (Elt F) → (⟨S2048x1024, .f32⟩ : BufTy).Contents (Elt F)),
    StableHlo.nullary main_c (constantI S_ 32 0#32),
    StableHlo.unary main_c main_v57 (broadcastInDim S2048 ![] bcast_S_S2048 : (⟨S_, .i32⟩ : BufTy).Contents (Elt F) → (⟨S2048, .i32⟩ : BufTy).Contents (Elt F)),
    StableHlo.binary main_v13 main_v57 main_v58 (cmpi .slt : (⟨S2048, .i32⟩ : BufTy).Contents (Elt F) → (⟨S2048, .i32⟩ : BufTy).Contents (Elt F) → (⟨S2048, .i1⟩ : BufTy).Contents (Elt F)),
    StableHlo.nullary main_c_15 (constantI S_ 32 8#32),
    StableHlo.unary main_c_15 main_v59 (broadcastInDim S2048 ![] bcast_S_S2048 : (⟨S_, .i32⟩ : BufTy).Contents (Elt F) → (⟨S2048, .i32⟩ : BufTy).Contents (Elt F)),
    StableHlo.binary main_v13 main_v59 main_v60 (addi : (⟨S2048, .i32⟩ : BufTy).Contents (Elt F) → (⟨S2048, .i32⟩ : BufTy).Contents (Elt F) → (⟨S2048, .i32⟩ : BufTy).Contents (Elt F)),
    StableHlo.ternary main_v58 main_v60 main_v13 main_v61 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.nullary main_c_16 (constantI S_ 32 0#32),
    StableHlo.unary main_c_16 main_v62 (broadcastInDim S2048 ![] bcast_S_S2048 : (⟨S_, .i32⟩ : BufTy).Contents (Elt F) → (⟨S2048, .i32⟩ : BufTy).Contents (Elt F)),
    StableHlo.binary main_v47 main_v62 main_v63 (cmpi .slt : (⟨S2048, .i32⟩ : BufTy).Contents (Elt F) → (⟨S2048, .i32⟩ : BufTy).Contents (Elt F) → (⟨S2048, .i1⟩ : BufTy).Contents (Elt F)),
    StableHlo.nullary main_c_17 (constantI S_ 32 512#32),
    StableHlo.unary main_c_17 main_v64 (broadcastInDim S2048 ![] bcast_S_S2048 : (⟨S_, .i32⟩ : BufTy).Contents (Elt F) → (⟨S2048, .i32⟩ : BufTy).Contents (Elt F)),
    StableHlo.binary main_v47 main_v64 main_v65 (addi : (⟨S2048, .i32⟩ : BufTy).Contents (Elt F) → (⟨S2048, .i32⟩ : BufTy).Contents (Elt F) → (⟨S2048, .i32⟩ : BufTy).Contents (Elt F)),
    StableHlo.ternary main_v63 main_v65 main_v47 main_v66 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v61 main_v67 (broadcastInDim S2048x1 ![0] bcast_S2048_S2048x1_0 : (⟨S2048, .i32⟩ : BufTy).Contents (Elt F) → (⟨S2048x1, .i32⟩ : BufTy).Contents (Elt F)),
    StableHlo.unary main_v66 main_v68 (broadcastInDim S2048x1 ![0] bcast_S2048_S2048x1_0 : (⟨S2048, .i32⟩ : BufTy).Contents (Elt F) → (⟨S2048x1, .i32⟩ : BufTy).Contents (Elt F)),
    StableHlo.binary main_v67 main_v68 main_v69 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)) ]

/-- The operations computing the first scatter into the expert buffers. -/
abbrev ops7 : List (HloOp τ sig (Elt F)) :=
  [ StableHlo.ternary main_v53 main_v69 main_v56 main_v70 ((fun x i u => Host.scatterAdd scatter_S8x512x1024_S2048x2_S2048x1024_1_01_01_1 x i u) : (⟨S8x512x1024, .f32⟩ : BufTy).Contents (Elt F) → (⟨S2048x2, .i32⟩ : BufTy).Contents (Elt F) → (⟨S2048x1024, .f32⟩ : BufTy).Contents (Elt F) → (⟨S8x512x1024, .f32⟩ : BufTy).Contents (Elt F)) ]

/-- The operations computing the second slots as index pairs, and what goes there. -/
abbrev ops8 : List (HloOp τ sig (Elt F)) :=
  [ StableHlo.unary main_v52 main_v71 (broadcastInDim S2048x1 ![0] bcast_S2048_S2048x1_0 : (⟨S2048, .f32⟩ : BufTy).Contents (Elt F) → (⟨S2048x1, .f32⟩ : BufTy).Contents (Elt F)),
    StableHlo.unary main_v71 main_v72 (broadcastInDim S2048x1024 ![0, 1] bcast_S2048x1_S2048x1024_0_1 : (⟨S2048x1, .f32⟩ : BufTy).Contents (Elt F) → (⟨S2048x1024, .f32⟩ : BufTy).Contents (Elt F)),
    StableHlo.binary main_v0 main_v72 main_v73 (mulf : (⟨S2048x1024, .f32⟩ : BufTy).Contents (Elt F) → (⟨S2048x1024, .f32⟩ : BufTy).Contents (Elt F) → (⟨S2048x1024, .f32⟩ : BufTy).Contents (Elt F)),
    StableHlo.nullary main_c_18 (constantI S_ 32 0#32),
    StableHlo.unary main_c_18 main_v74 (broadcastInDim S2048 ![] bcast_S_S2048 : (⟨S_, .i32⟩ : BufTy).Contents (Elt F) → (⟨S2048, .i32⟩ : BufTy).Contents (Elt F)),
    StableHlo.binary main_v18 main_v74 main_v75 (cmpi .slt : (⟨S2048, .i32⟩ : BufTy).Contents (Elt F) → (⟨S2048, .i32⟩ : BufTy).Contents (Elt F) → (⟨S2048, .i1⟩ : BufTy).Contents (Elt F)),
    StableHlo.nullary main_c_19 (constantI S_ 32 8#32),
    StableHlo.unary main_c_19 main_v76 (broadcastInDim S2048 ![] bcast_S_S2048 : (⟨S_, .i32⟩ : BufTy).Contents (Elt F) → (⟨S2048, .i32⟩ : BufTy).Contents (Elt F)),
    StableHlo.binary main_v18 main_v76 main_v77 (addi : (⟨S2048, .i32⟩ : BufTy).Contents (Elt F) → (⟨S2048, .i32⟩ : BufTy).Contents (Elt F) → (⟨S2048, .i32⟩ : BufTy).Contents (Elt F)),
    StableHlo.ternary main_v75 main_v77 main_v18 main_v78 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.nullary main_c_20 (constantI S_ 32 0#32),
    StableHlo.unary main_c_20 main_v79 (broadcastInDim S2048 ![] bcast_S_S2048 : (⟨S_, .i32⟩ : BufTy).Contents (Elt F) → (⟨S2048, .i32⟩ : BufTy).Contents (Elt F)),
    StableHlo.binary main_v50 main_v79 main_v80 (cmpi .slt : (⟨S2048, .i32⟩ : BufTy).Contents (Elt F) → (⟨S2048, .i32⟩ : BufTy).Contents (Elt F) → (⟨S2048, .i1⟩ : BufTy).Contents (Elt F)),
    StableHlo.nullary main_c_21 (constantI S_ 32 512#32),
    StableHlo.unary main_c_21 main_v81 (broadcastInDim S2048 ![] bcast_S_S2048 : (⟨S_, .i32⟩ : BufTy).Contents (Elt F) → (⟨S2048, .i32⟩ : BufTy).Contents (Elt F)),
    StableHlo.binary main_v50 main_v81 main_v82 (addi : (⟨S2048, .i32⟩ : BufTy).Contents (Elt F) → (⟨S2048, .i32⟩ : BufTy).Contents (Elt F) → (⟨S2048, .i32⟩ : BufTy).Contents (Elt F)),
    StableHlo.ternary main_v80 main_v82 main_v50 main_v83 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v78 main_v84 (broadcastInDim S2048x1 ![0] bcast_S2048_S2048x1_0 : (⟨S2048, .i32⟩ : BufTy).Contents (Elt F) → (⟨S2048x1, .i32⟩ : BufTy).Contents (Elt F)),
    StableHlo.unary main_v83 main_v85 (broadcastInDim S2048x1 ![0] bcast_S2048_S2048x1_0 : (⟨S2048, .i32⟩ : BufTy).Contents (Elt F) → (⟨S2048x1, .i32⟩ : BufTy).Contents (Elt F)),
    StableHlo.binary main_v84 main_v85 main_v86 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)) ]

/-- The operations computing the second scatter into the expert buffers. -/
abbrev ops9 : List (HloOp τ sig (Elt F)) :=
  [ StableHlo.ternary main_v70 main_v86 main_v73 main_v87 ((fun x i u => Host.scatterAdd scatter_S8x512x1024_S2048x2_S2048x1024_1_01_01_1 x i u) : (⟨S8x512x1024, .f32⟩ : BufTy).Contents (Elt F) → (⟨S2048x2, .i32⟩ : BufTy).Contents (Elt F) → (⟨S2048x1024, .f32⟩ : BufTy).Contents (Elt F) → (⟨S8x512x1024, .f32⟩ : BufTy).Contents (Elt F)) ]

/-- The operations computing the two layers of every expert. -/
abbrev ops10 : List (HloOp τ sig (Elt F)) :=
  [ StableHlo.binary main_v87 main_arg2 main_v88 ((fun l r => Host.dotGeneral dot_S8x512x1024_S8x1024x4096_S8x512x4096_2_1_1_2_0_0 none l r) : (⟨S8x512x1024, .f32⟩ : BufTy).Contents (Elt F) → (⟨S8x1024x4096, .f32⟩ : BufTy).Contents (Elt F) → (⟨S8x512x4096, .f32⟩ : BufTy).Contents (Elt F)),
    StableHlo.unary main_arg3 main_v89 (broadcastInDim S8x1x4096 ![0, 2] bcast_S8x4096_S8x1x4096_0_2 : (⟨S8x4096, .f32⟩ : BufTy).Contents (Elt F) → (⟨S8x1x4096, .f32⟩ : BufTy).Contents (Elt F)),
    StableHlo.unary main_v89 main_v90 (broadcastInDim S8x512x4096 ![0, 1, 2] bcast_S8x1x4096_S8x512x4096_0_1_2 : (⟨S8x1x4096, .f32⟩ : BufTy).Contents (Elt F) → (⟨S8x512x4096, .f32⟩ : BufTy).Contents (Elt F)),
    StableHlo.binary main_v88 main_v90 main_v91 (addf : (⟨S8x512x4096, .f32⟩ : BufTy).Contents (Elt F) → (⟨S8x512x4096, .f32⟩ : BufTy).Contents (Elt F) → (⟨S8x512x4096, .f32⟩ : BufTy).Contents (Elt F)),
    StableHlo.binary main_v91 main_arg4 main_v92 ((fun l r => Host.dotGeneral dot_S8x512x4096_S8x4096x1024_S8x512x1024_2_1_1_2_0_0 none l r) : (⟨S8x512x4096, .f32⟩ : BufTy).Contents (Elt F) → (⟨S8x4096x1024, .f32⟩ : BufTy).Contents (Elt F) → (⟨S8x512x1024, .f32⟩ : BufTy).Contents (Elt F)),
    StableHlo.unary main_arg5 main_v93 (broadcastInDim S8x1x1024 ![0, 2] bcast_S8x1024_S8x1x1024_0_2 : (⟨S8x1024, .f32⟩ : BufTy).Contents (Elt F) → (⟨S8x1x1024, .f32⟩ : BufTy).Contents (Elt F)),
    StableHlo.unary main_v93 main_v94 (broadcastInDim S8x512x1024 ![0, 1, 2] bcast_S8x1x1024_S8x512x1024_0_1_2 : (⟨S8x1x1024, .f32⟩ : BufTy).Contents (Elt F) → (⟨S8x512x1024, .f32⟩ : BufTy).Contents (Elt F)),
    StableHlo.binary main_v92 main_v94 main_v95 (addf : (⟨S8x512x1024, .f32⟩ : BufTy).Contents (Elt F) → (⟨S8x512x1024, .f32⟩ : BufTy).Contents (Elt F) → (⟨S8x512x1024, .f32⟩ : BufTy).Contents (Elt F)) ]

/-- The operations computing the first slots as index pairs again. -/
abbrev ops11 : List (HloOp τ sig (Elt F)) :=
  [ StableHlo.binary main_v27 main_v51 main_v96 (mulf : (⟨S2048, .f32⟩ : BufTy).Contents (Elt F) → (⟨S2048, .f32⟩ : BufTy).Contents (Elt F) → (⟨S2048, .f32⟩ : BufTy).Contents (Elt F)),
    StableHlo.unary main_v96 main_v97 (broadcastInDim S2048x1 ![0] bcast_S2048_S2048x1_0 : (⟨S2048, .f32⟩ : BufTy).Contents (Elt F) → (⟨S2048x1, .f32⟩ : BufTy).Contents (Elt F)),
    StableHlo.nullary main_c_22 (constantI S_ 32 0#32),
    StableHlo.unary main_c_22 main_v98 (broadcastInDim S2048 ![] bcast_S_S2048 : (⟨S_, .i32⟩ : BufTy).Contents (Elt F) → (⟨S2048, .i32⟩ : BufTy).Contents (Elt F)),
    StableHlo.binary main_v13 main_v98 main_v99 (cmpi .slt : (⟨S2048, .i32⟩ : BufTy).Contents (Elt F) → (⟨S2048, .i32⟩ : BufTy).Contents (Elt F) → (⟨S2048, .i1⟩ : BufTy).Contents (Elt F)),
    StableHlo.nullary main_c_23 (constantI S_ 32 8#32),
    StableHlo.unary main_c_23 main_v100 (broadcastInDim S2048 ![] bcast_S_S2048 : (⟨S_, .i32⟩ : BufTy).Contents (Elt F) → (⟨S2048, .i32⟩ : BufTy).Contents (Elt F)),
    StableHlo.binary main_v13 main_v100 main_v101 (addi : (⟨S2048, .i32⟩ : BufTy).Contents (Elt F) → (⟨S2048, .i32⟩ : BufTy).Contents (Elt F) → (⟨S2048, .i32⟩ : BufTy).Contents (Elt F)),
    StableHlo.ternary main_v99 main_v101 main_v13 main_v102 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.nullary main_c_24 (constantI S_ 32 0#32),
    StableHlo.unary main_c_24 main_v103 (broadcastInDim S2048 ![] bcast_S_S2048 : (⟨S_, .i32⟩ : BufTy).Contents (Elt F) → (⟨S2048, .i32⟩ : BufTy).Contents (Elt F)),
    StableHlo.binary main_v47 main_v103 main_v104 (cmpi .slt : (⟨S2048, .i32⟩ : BufTy).Contents (Elt F) → (⟨S2048, .i32⟩ : BufTy).Contents (Elt F) → (⟨S2048, .i1⟩ : BufTy).Contents (Elt F)),
    StableHlo.nullary main_c_25 (constantI S_ 32 512#32),
    StableHlo.unary main_c_25 main_v105 (broadcastInDim S2048 ![] bcast_S_S2048 : (⟨S_, .i32⟩ : BufTy).Contents (Elt F) → (⟨S2048, .i32⟩ : BufTy).Contents (Elt F)),
    StableHlo.binary main_v47 main_v105 main_v106 (addi : (⟨S2048, .i32⟩ : BufTy).Contents (Elt F) → (⟨S2048, .i32⟩ : BufTy).Contents (Elt F) → (⟨S2048, .i32⟩ : BufTy).Contents (Elt F)),
    StableHlo.ternary main_v104 main_v106 main_v47 main_v107 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v102 main_v108 (broadcastInDim S2048x1 ![0] bcast_S2048_S2048x1_0 : (⟨S2048, .i32⟩ : BufTy).Contents (Elt F) → (⟨S2048x1, .i32⟩ : BufTy).Contents (Elt F)),
    StableHlo.unary main_v107 main_v109 (broadcastInDim S2048x1 ![0] bcast_S2048_S2048x1_0 : (⟨S2048, .i32⟩ : BufTy).Contents (Elt F) → (⟨S2048x1, .i32⟩ : BufTy).Contents (Elt F)),
    StableHlo.binary main_v108 main_v109 main_v110 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)) ]

/-- The operations computing the first expert's share of the output. -/
abbrev ops12 : List (HloOp τ sig (Elt F)) :=
  [ StableHlo.binary main_v95 main_v110 main_v111 ((fun x i => Host.gather gather_S8x512x1024_S2048x2_S2048x1024_1_01_n_n_01_1_111024 x i) : (⟨S8x512x1024, .f32⟩ : BufTy).Contents (Elt F) → (⟨S2048x2, .i32⟩ : BufTy).Contents (Elt F) → (⟨S2048x1024, .f32⟩ : BufTy).Contents (Elt F)),
    StableHlo.unary main_v97 main_v112 (broadcastInDim S2048x1024 ![0, 1] bcast_S2048x1_S2048x1024_0_1 : (⟨S2048x1, .f32⟩ : BufTy).Contents (Elt F) → (⟨S2048x1024, .f32⟩ : BufTy).Contents (Elt F)),
    StableHlo.binary main_v112 main_v111 main_v113 (mulf : (⟨S2048x1024, .f32⟩ : BufTy).Contents (Elt F) → (⟨S2048x1024, .f32⟩ : BufTy).Contents (Elt F) → (⟨S2048x1024, .f32⟩ : BufTy).Contents (Elt F)) ]

/-- The operations computing the second slots as index pairs again. -/
abbrev ops13 : List (HloOp τ sig (Elt F)) :=
  [ StableHlo.binary main_v28 main_v52 main_v114 (mulf : (⟨S2048, .f32⟩ : BufTy).Contents (Elt F) → (⟨S2048, .f32⟩ : BufTy).Contents (Elt F) → (⟨S2048, .f32⟩ : BufTy).Contents (Elt F)),
    StableHlo.unary main_v114 main_v115 (broadcastInDim S2048x1 ![0] bcast_S2048_S2048x1_0 : (⟨S2048, .f32⟩ : BufTy).Contents (Elt F) → (⟨S2048x1, .f32⟩ : BufTy).Contents (Elt F)),
    StableHlo.nullary main_c_26 (constantI S_ 32 0#32),
    StableHlo.unary main_c_26 main_v116 (broadcastInDim S2048 ![] bcast_S_S2048 : (⟨S_, .i32⟩ : BufTy).Contents (Elt F) → (⟨S2048, .i32⟩ : BufTy).Contents (Elt F)),
    StableHlo.binary main_v18 main_v116 main_v117 (cmpi .slt : (⟨S2048, .i32⟩ : BufTy).Contents (Elt F) → (⟨S2048, .i32⟩ : BufTy).Contents (Elt F) → (⟨S2048, .i1⟩ : BufTy).Contents (Elt F)),
    StableHlo.nullary main_c_27 (constantI S_ 32 8#32),
    StableHlo.unary main_c_27 main_v118 (broadcastInDim S2048 ![] bcast_S_S2048 : (⟨S_, .i32⟩ : BufTy).Contents (Elt F) → (⟨S2048, .i32⟩ : BufTy).Contents (Elt F)),
    StableHlo.binary main_v18 main_v118 main_v119 (addi : (⟨S2048, .i32⟩ : BufTy).Contents (Elt F) → (⟨S2048, .i32⟩ : BufTy).Contents (Elt F) → (⟨S2048, .i32⟩ : BufTy).Contents (Elt F)),
    StableHlo.ternary main_v117 main_v119 main_v18 main_v120 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.nullary main_c_28 (constantI S_ 32 0#32),
    StableHlo.unary main_c_28 main_v121 (broadcastInDim S2048 ![] bcast_S_S2048 : (⟨S_, .i32⟩ : BufTy).Contents (Elt F) → (⟨S2048, .i32⟩ : BufTy).Contents (Elt F)),
    StableHlo.binary main_v50 main_v121 main_v122 (cmpi .slt : (⟨S2048, .i32⟩ : BufTy).Contents (Elt F) → (⟨S2048, .i32⟩ : BufTy).Contents (Elt F) → (⟨S2048, .i1⟩ : BufTy).Contents (Elt F)),
    StableHlo.nullary main_c_29 (constantI S_ 32 512#32),
    StableHlo.unary main_c_29 main_v123 (broadcastInDim S2048 ![] bcast_S_S2048 : (⟨S_, .i32⟩ : BufTy).Contents (Elt F) → (⟨S2048, .i32⟩ : BufTy).Contents (Elt F)),
    StableHlo.binary main_v50 main_v123 main_v124 (addi : (⟨S2048, .i32⟩ : BufTy).Contents (Elt F) → (⟨S2048, .i32⟩ : BufTy).Contents (Elt F) → (⟨S2048, .i32⟩ : BufTy).Contents (Elt F)),
    StableHlo.ternary main_v122 main_v124 main_v50 main_v125 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v120 main_v126 (broadcastInDim S2048x1 ![0] bcast_S2048_S2048x1_0 : (⟨S2048, .i32⟩ : BufTy).Contents (Elt F) → (⟨S2048x1, .i32⟩ : BufTy).Contents (Elt F)),
    StableHlo.unary main_v125 main_v127 (broadcastInDim S2048x1 ![0] bcast_S2048_S2048x1_0 : (⟨S2048, .i32⟩ : BufTy).Contents (Elt F) → (⟨S2048x1, .i32⟩ : BufTy).Contents (Elt F)),
    StableHlo.binary main_v126 main_v127 main_v128 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)) ]

/-- The operations computing the second expert's share of the output. -/
abbrev ops14 : List (HloOp τ sig (Elt F)) :=
  [ StableHlo.binary main_v95 main_v128 main_v129 ((fun x i => Host.gather gather_S8x512x1024_S2048x2_S2048x1024_1_01_n_n_01_1_111024 x i) : (⟨S8x512x1024, .f32⟩ : BufTy).Contents (Elt F) → (⟨S2048x2, .i32⟩ : BufTy).Contents (Elt F) → (⟨S2048x1024, .f32⟩ : BufTy).Contents (Elt F)),
    StableHlo.unary main_v115 main_v130 (broadcastInDim S2048x1024 ![0, 1] bcast_S2048x1_S2048x1024_0_1 : (⟨S2048x1, .f32⟩ : BufTy).Contents (Elt F) → (⟨S2048x1024, .f32⟩ : BufTy).Contents (Elt F)),
    StableHlo.binary main_v130 main_v129 main_v131 (mulf : (⟨S2048x1024, .f32⟩ : BufTy).Contents (Elt F) → (⟨S2048x1024, .f32⟩ : BufTy).Contents (Elt F) → (⟨S2048x1024, .f32⟩ : BufTy).Contents (Elt F)) ]

/-- The operations computing the sum over the model dimension. -/
abbrev ops15 : List (HloOp τ sig (Elt F)) :=
  [ StableHlo.binary main_v113 main_v131 main_v132 (addf : (⟨S2048x1024, .f32⟩ : BufTy).Contents (Elt F) → (⟨S2048x1024, .f32⟩ : BufTy).Contents (Elt F) → (⟨S2048x1024, .f32⟩ : BufTy).Contents (Elt F)),
    StableHlo.reshape main_v132 main_v133 (rfl : (.f32 : EltTy) = .f32) shapeCasts_S2048x1024_S1x2048x1024,
    StableHlo.nullary main_cst_30 (constant S_ .f32 0x00000000#32),
    StableHlo.binary main_v133 main_cst_30 main_v134 ((fun x v => Host.reduceAdd x v reducesTo_S1x2048x1024_S1x2048_d2 h_S_) : (⟨S1x2048x1024, .f32⟩ : BufTy).Contents (Elt F) → (⟨S_, .f32⟩ : BufTy).Contents (Elt F) → (⟨S1x2048, .f32⟩ : BufTy).Contents (Elt F)) ]

/-- The operations computing the log softmax over the tokens. -/
abbrev ops16 : List (HloOp τ sig (Elt F)) :=
  [ StableHlo.TRef.nullary main_call7.cst (constant S_ .f32 0xFF800000#32),
    StableHlo.TRef.binary (.of main_v134 : StableHlo.TRef sig ⟨S1x2048, .f32⟩) main_call7.cst main_call7.v0 (fun x v => Host.reduce FloatOps.maximumf x v reducesTo_S1x2048_S1_d1 h_S_),
    StableHlo.TRef.nullary main_call7.cst_0 (constant S_ .f32 0xFF800000#32),
    StableHlo.TRef.unary main_call7.cst_0 main_call7.v1 (broadcastInDim S1 ![] bcast_S_S1),
    StableHlo.TRef.binary main_call7.v1 main_call7.v0 main_call7.v2 maximumf,
    StableHlo.TRef.unary main_call7.v2 main_call7.v3 (broadcastInDim S1x1 ![0] bcast_S1_S1x1_0),
    StableHlo.TRef.unary main_call7.v3 main_call7.v4 (broadcastInDim S1x2048 ![0, 1] bcast_S1x1_S1x2048_0_1),
    StableHlo.TRef.binary (.of main_v134 : StableHlo.TRef sig ⟨S1x2048, .f32⟩) main_call7.v4 main_call7.v5 subf,
    StableHlo.TRef.unary main_call7.v5 main_call7.v6 Host.exp,
    StableHlo.TRef.nullary main_call7.cst_1 (constant S_ .f32 0x00000000#32),
    StableHlo.TRef.binary main_call7.v6 main_call7.cst_1 main_call7.v7 (fun x v => Host.reduceAdd x v reducesTo_S1x2048_S1_d1 h_S_),
    StableHlo.TRef.unary main_call7.v7 main_call7.v8 (broadcastInDim S1x1 ![0] bcast_S1_S1x1_0),
    StableHlo.TRef.unary main_call7.v8 main_call7.v9 Host.log,
    StableHlo.TRef.unary main_call7.v9 main_call7.v10 (broadcastInDim S1x2048 ![0, 1] bcast_S1x1_S1x2048_0_1),
    StableHlo.TRef.binary main_call7.v5 main_call7.v10 main_call7.v11 subf ]

/-- All the operations of the reference, in order. -/
abbrev ops : List (HloOp τ sig (Elt F)) :=
  ops0 ++ (ops1 ++ (ops2 ++ (ops3 ++ (ops4 ++ (ops5 ++ (ops6 ++ (ops7 ++ (ops8 ++ (ops9 ++ (ops10 ++ (ops11 ++ (ops12 ++ (ops13 ++ (ops14 ++ (ops15 ++ (ops16))))))))))))))))

set_option maxHeartbeats 4000000 in
/-- The reference program is its list of operations. -/
theorem isSeq (d : Dev nD) : StableHlo.IsSeq (main (F := F) d) ops := by
  unfold StableHlo.IsSeq; rfl

/-- Every operation of the reference reads and writes the program's buffers only. -/
theorem ops_sub : (ops (F := F)).Forall fun op => op.bufs ⊆ StableHlo.tcRefs τ sig := by
  simp [List.Forall]

end Cert.Moe.Ref

end
-- ==== Proof.RefRun.lean ====
/- The reference's run: every execution ends, with every buffer holding what the operation list leaves in it, the
   arguments unchanged and every semaphore at zero. A segment leaves each buffer it does not write alone. -/
module

public import proofs.«01_k».proof.Proof.RefOps
public import Idealize.ShloMosaic.Lib.Quiescent
public import Idealize.ShloMosaic.Lib.StableHlo.RunHlo
public import Idealize.ShloMosaic.Lib.Pipeline.Frame

@[expose] public section

set_option maxRecDepth 16384

noncomputable section

namespace Cert.Moe.Ref

open Idealize.ShloMosaic Idealize.SL.Sem Cert.ReferenceIdeal

variable {F : FTy → Type} [FloatOps F]

/-- What segment 0 writes, in order. -/
abbrev W0 : List (Ref sig .tc) := [main_v0, main_v1, main_cst, main_v2, main_cst_0, main_v3, main_v4, main_v5, main_v6, main_v7, main_v8, main_cst_1, main_v9, main_v10, main_v11, main_v12]
/-- Segment 0 leaves every other buffer alone. -/
theorem pass0 (V : Valuation τ sig (Elt F)) {r : Ref sig .tc} (h : r ∉ W0) :
    StableHlo.after ops0 V (Proc.devRef .tc r) = V (Proc.devRef .tc r) :=
  StableHlo.after_unwritten W0 rfl h V
/-- Segment 0's operations make nothing fresh. -/
theorem fresh0 : ∀ op ∈ (ops0 (F := F)), op.fresh = ∅ :=
  List.forall_iff_forall_mem.1 (by simp only [List.Forall]; and_intros <;> rfl)

/-- What segment 1 writes, in order. -/
abbrev W1 : List (Ref sig .tc) := [main_call0_v0, main_call0_cst, main_call0_c, main_call0_v1_0, main_v13, main_call1_v0, main_call1_v1, main_call1_v2, main_call1_v3, main_call1_v4, main_v14]
/-- Segment 1 leaves every other buffer alone. -/
theorem pass1 (V : Valuation τ sig (Elt F)) {r : Ref sig .tc} (h : r ∉ W1) :
    StableHlo.after ops1 V (Proc.devRef .tc r) = V (Proc.devRef .tc r) :=
  StableHlo.after_unwritten W1 rfl h V
/-- Segment 1's operations make nothing fresh. -/
theorem fresh1 : ∀ op ∈ (ops1 (F := F)), op.fresh = ∅ :=
  List.forall_iff_forall_mem.1 (by simp only [List.Forall]; and_intros <;> rfl)

/-- What segment 2 writes, in order. -/
abbrev W2 : List (Ref sig .tc) := [main_cst_2, main_v15, main_v16, main_cst_3, main_call2_v0, main_call2_v1, main_v17, main_call3_v0, main_call3_cst, main_call3_c, main_call3_v1_0, main_v18, main_call4_v0, main_call4_v1, main_call4_v2, main_call4_v3, main_call4_v4, main_v19]
/-- Segment 2 leaves every other buffer alone. -/
theorem pass2 (V : Valuation τ sig (Elt F)) {r : Ref sig .tc} (h : r ∉ W2) :
    StableHlo.after ops2 V (Proc.devRef .tc r) = V (Proc.devRef .tc r) :=
  StableHlo.after_unwritten W2 rfl h V
/-- Segment 2's operations make nothing fresh. -/
theorem fresh2 : ∀ op ∈ (ops2 (F := F)), op.fresh = ∅ :=
  List.forall_iff_forall_mem.1 (by simp only [List.Forall]; and_intros <;> rfl)

/-- What segment 3 writes, in order. -/
abbrev W3 : List (Ref sig .tc) := [main_v20, main_cst_4, main_v21, main_v22, main_cst_5, main_v23, main_v24, main_cst_6, main_v25, main_v26, main_v27, main_v28]
/-- Segment 3 leaves every other buffer alone. -/
theorem pass3 (V : Valuation τ sig (Elt F)) {r : Ref sig .tc} (h : r ∉ W3) :
    StableHlo.after ops3 V (Proc.devRef .tc r) = V (Proc.devRef .tc r) :=
  StableHlo.after_unwritten W3 rfl h V
/-- Segment 3's operations make nothing fresh. -/
theorem fresh3 : ∀ op ∈ (ops3 (F := F)), op.fresh = ∅ :=
  List.forall_iff_forall_mem.1 (by simp only [List.Forall]; and_intros <;> rfl)

/-- What segment 4 writes, in order. -/
abbrev W4 : List (Ref sig .tc) := [main_call5_call0_cst, main_call5_call0_v0, main_v29, main_v30, main_call6_call0_cst, main_call6_call0_v0, main_v31, main_v32, main_cst_7, main_v33, main_v34, main_v35, main_v36]
/-- Segment 4 leaves every other buffer alone. -/
theorem pass4 (V : Valuation τ sig (Elt F)) {r : Ref sig .tc} (h : r ∉ W4) :
    StableHlo.after ops4 V (Proc.devRef .tc r) = V (Proc.devRef .tc r) :=
  StableHlo.after_unwritten W4 rfl h V
/-- Segment 4's operations make nothing fresh. -/
theorem fresh4 : ∀ op ∈ (ops4 (F := F)), op.fresh = ∅ :=
  List.forall_iff_forall_mem.1 (by simp only [List.Forall]; and_intros <;> rfl)

/-- What segment 5 writes, in order. -/
abbrev W5 : List (Ref sig .tc) := [main_cst_8, main_v37, main_v38, main_v39, main_v40, main_cst_9, main_v41, main_v42, main_v43, main_v44, main_v45, main_cst_10, main_v46, main_v47, main_v48, main_cst_11, main_v49, main_v50, main_cst_12, main_v51, main_cst_13, main_v52]
/-- Segment 5 leaves every other buffer alone. -/
theorem pass5 (V : Valuation τ sig (Elt F)) {r : Ref sig .tc} (h : r ∉ W5) :
    StableHlo.after ops5 V (Proc.devRef .tc r) = V (Proc.devRef .tc r) :=
  StableHlo.after_unwritten W5 rfl h V
/-- Segment 5's operations make nothing fresh. -/
theorem fresh5 : ∀ op ∈ (ops5 (F := F)), op.fresh = ∅ :=
  List.forall_iff_forall_mem.1 (by simp only [List.Forall]; and_intros <;> rfl)

/-- What segment 6 writes, in order. -/
abbrev W6 : List (Ref sig .tc) := [main_cst_14, main_v53, main_v54, main_v55, main_v56, main_c, main_v57, main_v58, main_c_15, main_v59, main_v60, main_v61, main_c_16, main_v62, main_v63, main_c_17, main_v64, main_v65, main_v66, main_v67, main_v68, main_v69]
/-- Segment 6 leaves every other buffer alone. -/
theorem pass6 (V : Valuation τ sig (Elt F)) {r : Ref sig .tc} (h : r ∉ W6) :
    StableHlo.after ops6 V (Proc.devRef .tc r) = V (Proc.devRef .tc r) :=
  StableHlo.after_unwritten W6 rfl h V
/-- Segment 6's operations make nothing fresh. -/
theorem fresh6 : ∀ op ∈ (ops6 (F := F)), op.fresh = ∅ :=
  List.forall_iff_forall_mem.1 (by simp only [List.Forall]; and_intros <;> rfl)

/-- What segment 7 writes, in order. -/
abbrev W7 : List (Ref sig .tc) := [main_v70]
/-- Segment 7 leaves every other buffer alone. -/
theorem pass7 (V : Valuation τ sig (Elt F)) {r : Ref sig .tc} (h : r ∉ W7) :
    StableHlo.after ops7 V (Proc.devRef .tc r) = V (Proc.devRef .tc r) :=
  StableHlo.after_unwritten W7 rfl h V
/-- Segment 7's operations make nothing fresh. -/
theorem fresh7 : ∀ op ∈ (ops7 (F := F)), op.fresh = ∅ :=
  List.forall_iff_forall_mem.1 (by simp only [List.Forall]; and_intros <;> rfl)

/-- What segment 8 writes, in order. -/
abbrev W8 : List (Ref sig .tc) := [main_v71, main_v72, main_v73, main_c_18, main_v74, main_v75, main_c_19, main_v76, main_v77, main_v78, main_c_20, main_v79, main_v80, main_c_21, main_v81, main_v82, main_v83, main_v84, main_v85, main_v86]
/-- Segment 8 leaves every other buffer alone. -/
theorem pass8 (V : Valuation τ sig (Elt F)) {r : Ref sig .tc} (h : r ∉ W8) :
    StableHlo.after ops8 V (Proc.devRef .tc r) = V (Proc.devRef .tc r) :=
  StableHlo.after_unwritten W8 rfl h V
/-- Segment 8's operations make nothing fresh. -/
theorem fresh8 : ∀ op ∈ (ops8 (F := F)), op.fresh = ∅ :=
  List.forall_iff_forall_mem.1 (by simp only [List.Forall]; and_intros <;> rfl)

/-- What segment 9 writes, in order. -/
abbrev W9 : List (Ref sig .tc) := [main_v87]
/-- Segment 9 leaves every other buffer alone. -/
theorem pass9 (V : Valuation τ sig (Elt F)) {r : Ref sig .tc} (h : r ∉ W9) :
    StableHlo.after ops9 V (Proc.devRef .tc r) = V (Proc.devRef .tc r) :=
  StableHlo.after_unwritten W9 rfl h V
/-- Segment 9's operations make nothing fresh. -/
theorem fresh9 : ∀ op ∈ (ops9 (F := F)), op.fresh = ∅ :=
  List.forall_iff_forall_mem.1 (by simp only [List.Forall]; and_intros <;> rfl)

/-- What segment 10 writes, in order. -/
abbrev W10 : List (Ref sig .tc) := [main_v88, main_v89, main_v90, main_v91, main_v92, main_v93, main_v94, main_v95]
/-- Segment 10 leaves every other buffer alone. -/
theorem pass10 (V : Valuation τ sig (Elt F)) {r : Ref sig .tc} (h : r ∉ W10) :
    StableHlo.after ops10 V (Proc.devRef .tc r) = V (Proc.devRef .tc r) :=
  StableHlo.after_unwritten W10 rfl h V
/-- Segment 10's operations make nothing fresh. -/
theorem fresh10 : ∀ op ∈ (ops10 (F := F)), op.fresh = ∅ :=
  List.forall_iff_forall_mem.1 (by simp only [List.Forall]; and_intros <;> rfl)

/-- What segment 11 writes, in order. -/
abbrev W11 : List (Ref sig .tc) := [main_v96, main_v97, main_c_22, main_v98, main_v99, main_c_23, main_v100, main_v101, main_v102, main_c_24, main_v103, main_v104, main_c_25, main_v105, main_v106, main_v107, main_v108, main_v109, main_v110]
/-- Segment 11 leaves every other buffer alone. -/
theorem pass11 (V : Valuation τ sig (Elt F)) {r : Ref sig .tc} (h : r ∉ W11) :
    StableHlo.after ops11 V (Proc.devRef .tc r) = V (Proc.devRef .tc r) :=
  StableHlo.after_unwritten W11 rfl h V
/-- Segment 11's operations make nothing fresh. -/
theorem fresh11 : ∀ op ∈ (ops11 (F := F)), op.fresh = ∅ :=
  List.forall_iff_forall_mem.1 (by simp only [List.Forall]; and_intros <;> rfl)

/-- What segment 12 writes, in order. -/
abbrev W12 : List (Ref sig .tc) := [main_v111, main_v112, main_v113]
/-- Segment 12 leaves every other buffer alone. -/
theorem pass12 (V : Valuation τ sig (Elt F)) {r : Ref sig .tc} (h : r ∉ W12) :
    StableHlo.after ops12 V (Proc.devRef .tc r) = V (Proc.devRef .tc r) :=
  StableHlo.after_unwritten W12 rfl h V
/-- Segment 12's operations make nothing fresh. -/
theorem fresh12 : ∀ op ∈ (ops12 (F := F)), op.fresh = ∅ :=
  List.forall_iff_forall_mem.1 (by simp only [List.Forall]; and_intros <;> rfl)

/-- What segment 13 writes, in order. -/
abbrev W13 : List (Ref sig .tc) := [main_v114, main_v115, main_c_26, main_v116, main_v117, main_c_27, main_v118, main_v119, main_v120, main_c_28, main_v121, main_v122, main_c_29, main_v123, main_v124, main_v125, main_v126, main_v127, main_v128]
/-- Segment 13 leaves every other buffer alone. -/
theorem pass13 (V : Valuation τ sig (Elt F)) {r : Ref sig .tc} (h : r ∉ W13) :
    StableHlo.after ops13 V (Proc.devRef .tc r) = V (Proc.devRef .tc r) :=
  StableHlo.after_unwritten W13 rfl h V
/-- Segment 13's operations make nothing fresh. -/
theorem fresh13 : ∀ op ∈ (ops13 (F := F)), op.fresh = ∅ :=
  List.forall_iff_forall_mem.1 (by simp only [List.Forall]; and_intros <;> rfl)

/-- What segment 14 writes, in order. -/
abbrev W14 : List (Ref sig .tc) := [main_v129, main_v130, main_v131]
/-- Segment 14 leaves every other buffer alone. -/
theorem pass14 (V : Valuation τ sig (Elt F)) {r : Ref sig .tc} (h : r ∉ W14) :
    StableHlo.after ops14 V (Proc.devRef .tc r) = V (Proc.devRef .tc r) :=
  StableHlo.after_unwritten W14 rfl h V
/-- Segment 14's operations make nothing fresh. -/
theorem fresh14 : ∀ op ∈ (ops14 (F := F)), op.fresh = ∅ :=
  List.forall_iff_forall_mem.1 (by simp only [List.Forall]; and_intros <;> rfl)

/-- What segment 15 writes, in order. -/
abbrev W15 : List (Ref sig .tc) := [main_v132, main_v133, main_cst_30, main_v134]
/-- Segment 15 leaves every other buffer alone. -/
theorem pass15 (V : Valuation τ sig (Elt F)) {r : Ref sig .tc} (h : r ∉ W15) :
    StableHlo.after ops15 V (Proc.devRef .tc r) = V (Proc.devRef .tc r) :=
  StableHlo.after_unwritten W15 rfl h V
/-- Segment 15's operations make nothing fresh. -/
theorem fresh15 : ∀ op ∈ (ops15 (F := F)), op.fresh = ∅ :=
  List.forall_iff_forall_mem.1 (by simp only [List.Forall]; and_intros <;> rfl)

/-- What segment 16 writes, in order. -/
abbrev W16 : List (Ref sig .tc) := [main_call7_cst, main_call7_v0, main_call7_cst_0, main_call7_v1, main_call7_v2, main_call7_v3, main_call7_v4, main_call7_v5, main_call7_v6, main_call7_cst_1, main_call7_v7, main_call7_v8, main_call7_v9, main_call7_v10, main_v135]
/-- Segment 16 leaves every other buffer alone. -/
theorem pass16 (V : Valuation τ sig (Elt F)) {r : Ref sig .tc} (h : r ∉ W16) :
    StableHlo.after ops16 V (Proc.devRef .tc r) = V (Proc.devRef .tc r) :=
  StableHlo.after_unwritten W16 rfl h V
/-- Segment 16's operations make nothing fresh. -/
theorem fresh16 : ∀ op ∈ (ops16 (F := F)), op.fresh = ∅ :=
  List.forall_iff_forall_mem.1 (by simp only [List.Forall]; and_intros <;> rfl)

/-- The contents after the first segments, one after the other. -/
def U0 (V : Valuation τ sig (Elt F)) : Valuation τ sig (Elt F) := StableHlo.after ops0 V
/-- The contents after segment 1. -/
def U1 (V : Valuation τ sig (Elt F)) : Valuation τ sig (Elt F) := StableHlo.after ops1 (U0 V)
/-- The contents after segment 2. -/
def U2 (V : Valuation τ sig (Elt F)) : Valuation τ sig (Elt F) := StableHlo.after ops2 (U1 V)
/-- The contents after segment 3. -/
def U3 (V : Valuation τ sig (Elt F)) : Valuation τ sig (Elt F) := StableHlo.after ops3 (U2 V)
/-- The contents after segment 4. -/
def U4 (V : Valuation τ sig (Elt F)) : Valuation τ sig (Elt F) := StableHlo.after ops4 (U3 V)
/-- The contents after segment 5. -/
def U5 (V : Valuation τ sig (Elt F)) : Valuation τ sig (Elt F) := StableHlo.after ops5 (U4 V)
/-- The contents after segment 6. -/
def U6 (V : Valuation τ sig (Elt F)) : Valuation τ sig (Elt F) := StableHlo.after ops6 (U5 V)
/-- The contents after segment 7. -/
def U7 (V : Valuation τ sig (Elt F)) : Valuation τ sig (Elt F) := StableHlo.after ops7 (U6 V)
/-- The contents after segment 8. -/
def U8 (V : Valuation τ sig (Elt F)) : Valuation τ sig (Elt F) := StableHlo.after ops8 (U7 V)
/-- The contents after segment 9. -/
def U9 (V : Valuation τ sig (Elt F)) : Valuation τ sig (Elt F) := StableHlo.after ops9 (U8 V)
/-- The contents after segment 10. -/
def U10 (V : Valuation τ sig (Elt F)) : Valuation τ sig (Elt F) := StableHlo.after ops10 (U9 V)
/-- The contents after segment 11. -/
def U11 (V : Valuation τ sig (Elt F)) : Valuation τ sig (Elt F) := StableHlo.after ops11 (U10 V)
/-- The contents after segment 12. -/
def U12 (V : Valuation τ sig (Elt F)) : Valuation τ sig (Elt F) := StableHlo.after ops12 (U11 V)
/-- The contents after segment 13. -/
def U13 (V : Valuation τ sig (Elt F)) : Valuation τ sig (Elt F) := StableHlo.after ops13 (U12 V)
/-- The contents after segment 14. -/
def U14 (V : Valuation τ sig (Elt F)) : Valuation τ sig (Elt F) := StableHlo.after ops14 (U13 V)
/-- The contents after segment 15. -/
def U15 (V : Valuation τ sig (Elt F)) : Valuation τ sig (Elt F) := StableHlo.after ops15 (U14 V)
/-- The contents after segment 16. -/
def U16 (V : Valuation τ sig (Elt F)) : Valuation τ sig (Elt F) := StableHlo.after ops16 (U15 V)

/-- The whole list's contents are the last segment's. -/
theorem after_ops (V : Valuation τ sig (Elt F)) : StableHlo.after ops V = U16 V := by
  simp only [ops, StableHlo.after_append]
  rfl

/-- No segment writes a buffer that the program was given. -/
theorem ops_arg (V : Valuation τ sig (Elt F)) {r : Ref sig .tc}
    (h : r ∉ W0 ++ (W1 ++ (W2 ++ (W3 ++ (W4 ++ (W5 ++ (W6 ++ (W7 ++ (W8 ++ (W9 ++ (W10 ++ (W11 ++ (W12 ++ (W13 ++ (W14 ++ (W15 ++ (W16))))))))))))))))) :
    StableHlo.after ops V (Proc.devRef .tc r) = V (Proc.devRef .tc r) := by
  simp only [List.mem_append, not_or] at h
  obtain ⟨h0, h1, h2, h3, h4, h5, h6, h7, h8, h9, h10, h11, h12, h13, h14, h15, h16⟩ := h
  rw [after_ops]
  exact ((pass16 _ h16).trans ((pass15 _ h15).trans ((pass14 _ h14).trans ((pass13 _ h13).trans ((pass12 _ h12).trans ((pass11 _ h11).trans ((pass10 _ h10).trans ((pass9 _ h9).trans ((pass8 _ h8).trans ((pass7 _ h7).trans ((pass6 _ h6).trans ((pass5 _ h5).trans ((pass4 _ h4).trans ((pass3 _ h3).trans ((pass2 _ h2).trans ((pass1 _ h1).trans (pass0 _ h0)))))))))))))))))

/-- Every execution of the reference ends with the result holding what the list leaves there, the arguments unchanged
    and every semaphore at zero. -/
theorem run (m : (ℓ : Loc nD τ sig) → Buf (Elt F) ℓ) (g : Dev nD → PrngReg) :
    θ_run (defs (F := F)) (onTc (τ := τ) (main (F := F))) ⟨m, fun _ => 0, g⟩ (fun r =>
      (∀ c : Dev nD,
        r.2.mem ((c.tc : Thread nD τ).loc main_v135) = U16 (StableHlo.launchContents m c) (Proc.devRef .tc main_v135)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0) := by
  have hfresh : ∀ op ∈ (ops (F := F)), op.fresh = ∅ := by
    unfold ops
    exact List.forall_mem_append.2 ⟨fresh0,
      List.forall_mem_append.2 ⟨fresh1,
      List.forall_mem_append.2 ⟨fresh2,
      List.forall_mem_append.2 ⟨fresh3,
      List.forall_mem_append.2 ⟨fresh4,
      List.forall_mem_append.2 ⟨fresh5,
      List.forall_mem_append.2 ⟨fresh6,
      List.forall_mem_append.2 ⟨fresh7,
      List.forall_mem_append.2 ⟨fresh8,
      List.forall_mem_append.2 ⟨fresh9,
      List.forall_mem_append.2 ⟨fresh10,
      List.forall_mem_append.2 ⟨fresh11,
      List.forall_mem_append.2 ⟨fresh12,
      List.forall_mem_append.2 ⟨fresh13,
      List.forall_mem_append.2 ⟨fresh14,
      List.forall_mem_append.2 ⟨fresh15,
      fresh16⟩⟩⟩⟩⟩⟩⟩⟩⟩⟩⟩⟩⟩⟩⟩⟩
  refine (θ_run defs _ _).mono ?_ (StableHlo.run_hlo defs (main (F := F)) (ops := ops) isSeq (by decide) (by decide)
    ops_sub hfresh m g)
  intro r hr
  refine ⟨fun c => ⟨?_, ?_, ?_, ?_, ?_, ?_, ?_⟩, sem_eq_zero_of_no_sems rfl _⟩
  · rw [← after_ops]; exact hr c main_v135
  all_goals exact (hr c _).trans (ops_arg _ (by decide))

end Cert.Moe.Ref

end
-- ==== Proof.HostOps.lean ====
/- The reference's four indexed operations read at one element, over extended reals: the position of the maximum, the
   running sum, the scatter that adds a row to a slot, and the gather that takes a row from a slot. -/
module

public import proofs.«01_k».proof.Proof.Gen.ReferenceIdeal
public import proofs.«01_k».proof.Proof.Top
public import Idealize.ShloMosaic.PureOps.Ideal
public import Idealize.ShloMosaic.PureOps.Ideal.Laws
public import Idealize.ShloMosaic.Lib.Routing.OpsPair
public import Idealize.ShloMosaic.Lib.Pointwise

@[expose] public section

set_option maxRecDepth 16384

noncomputable section

namespace Cert.Moe.Ref

open Idealize.ShloMosaic Cert.ReferenceIdeal
open Cert.ReferenceIdeal.Facts₀ Cert.ReferenceIdeal.Facts

/-- The printed step of the position of the maximum keeps the greater value, and on equal values the smaller position. -/
theorem reducer_eq (a b : EReal × BitVec 32) : reducer_argmax_f32_i32 (F := Ideal) a b = pick a b := by
  obtain ⟨a1, a2⟩ := a
  obtain ⟨b1, b2⟩ := b
  show (Scalar.select (IntOp.ori (BitVec.ofBool (decide (b1 < a1))) (BitVec.ofBool (decide (a1 ≠ a1)))) a1 b1,
    Scalar.select (IntOp.ori (IntOp.ori (BitVec.ofBool (decide (b1 < a1))) (BitVec.ofBool (decide (a1 ≠ a1))))
      (IntOp.andi (BitVec.ofBool (decide (a1 = b1))) (IntOp.cmpi .slt a2 b2))) a2 b2) = _
  have hs : IntOp.cmpi .slt a2 b2 = BitVec.ofBool (decide (a2.toInt < b2.toInt)) := rfl
  rw [hs]
  unfold pick Scalar.select IntOp.ori IntOp.andi
  by_cases h1 : b1 < a1 <;> by_cases h2 : a1 = b1 <;> by_cases h3 : a2.toInt < b2.toInt <;>
    simp [h1, h2, h3]

/-- The position of a row's maximum. -/
theorem argmax_at (x : FVec Ideal S2048x8 .f32) (t : Fin 2048) :
    (Host.argReduce reducer_argmax_f32_i32 x (iotaInDim S2048x8 32 1) (constant S_ .f32 0xFF800000#32)
      (constantI S_ 32 0#32) reducesTo_S2048x8_S2048_d1 h_S_ (ix1 t)).2
      = BitVec.ofNat 32 (top fun e => x (ix2 t e)).val := by
  rw [Ideal.argReduce_eq_reduce2]
  unfold Host.reduce2
  obtain ⟨col, hcol⟩ : ∃ col : Fin S2048x8.numel → Fin 8, ∀ n, S2048x8.rowMajor.symm n 1 = col n := ⟨_, fun _ => rfl⟩
  rw [← foldl_pick (fun e => x (ix2 t e)) (((List.finRange S2048x8.numel).filter fun n =>
    reducesTo_S2048x8_S2048_d1.drop (S2048x8.rowMajor.symm n) = ix1 t).map col)]
  · rw [List.foldl_map]
    have hinit : ((constant S_ .f32 0xFF800000#32 : FVec Ideal S_ .f32) (Shape.Idx.first h_S_),
        constantI S_ 32 0#32 (Shape.Idx.first h_S_)) = ((⊥ : EReal), 0#32) := by
      rw [← neg_inf]; rfl
    rw [hinit]
    refine congrArg Prod.snd (List.foldl_ext _ _ _ fun r n hn => ?_)
    have hd := (List.mem_filter.1 hn).2
    rw [reducer_eq]
    have hix : S2048x8.rowMajor.symm n = ix2 t (col n) := by
      have h0 := congrFun (of_decide_eq_true hd) 0
      refine (eq_ix2 (n0 := 2048) (n1 := 8) _).trans ?_
      exact congrArg₂ (fun (a : Fin 2048) (b : Fin 8) => ix2 a b) h0 (hcol n)
    show pick r (x (S2048x8.rowMajor.symm n), BitVec.ofNat 32 (S2048x8.rowMajor.symm n 1).val) = _
    rw [hix]
    rfl
  · intro i
    refine List.mem_map.2 ⟨S2048x8.rowMajor (ix2 t i), List.mem_filter.2 ⟨List.mem_finRange _, ?_⟩, ?_⟩
    · rw [Equiv.symm_apply_apply]
      refine decide_eq_true (funext fun a => ?_)
      match a with
      | ⟨0, _⟩ => rfl
    · rw [← hcol, Equiv.symm_apply_apply]; rfl

/-- A left fold that adds is its start plus the sum. -/
theorem foldl_add {ι : Type} (l : List ι) (g : ι → EReal) : ∀ r : EReal, l.foldl (fun r n => r + g n) r = r + (l.map g).sum := by
  induction l with
  | nil => intro r; simp
  | cons a l ih => intro r; rw [List.foldl_cons, ih, List.map_cons, List.sum_cons, add_assoc]

/-- The running sum down a column: entry `t` is the sum of the entries up to and with it. -/
theorem cumsum_at (x : FVec Ideal S2048x8 .f32) (t : Fin 2048) (e : Fin 8) :
    Host.reduceWindowAdd ![2048, 1] ![1, 1] ![2047, 0] ![0, 0] x (broadcastInDim S_ ![] bcast_S_S_ (constant S_ .f32 0x00000000#32))
      reduceWindows_S2048x8_S2048x8_w2048s1p2047_0_w1s1p0_0 h_S_ (ix2 t e)
      = ∑ s : Fin 2048, if s ≤ t then x (ix2 s e) else 0 := by
  have h0 : (broadcastInDim S_ ![] bcast_S_S_ (constant S_ .f32 0x00000000#32 : FVec Ideal S_ .f32)) (Shape.Idx.first h_S_) = (0 : EReal) := by
    show Ideal.ofBits .f32 0x00000000#32 = 0
    simp [Ideal.ofBits, Ideal.ieee]
  unfold Host.reduceWindowAdd
  rw [Ideal.hostReduceWindowAdd_def, h0]
  unfold Ideal.hostReduceWindowAdd
  unfold Host.reduceWindow
  refine (foldl_add _ _ _).trans ?_
  rw [zero_add, ← Fin.sum_univ_def]
  let W : Shape := ⟨2, ![2048, 1]⟩
  let g : W.Idx → EReal := fun w => if h : 2047 ≤ t.val + (w 0).val then
    x (ix2 ⟨t.val + (w 0).val - 2047, by have := (w 0).isLt; have : (w 0).val < 2048 := this; omega⟩ e) else 0
  have hlt : ∀ w : W.Idx, t.val + (w 0).val - 2047 < 2048 := fun w => by
    have : (w 0).val < 2048 := (w 0).isLt
    omega
  have gpos : ∀ w : W.Idx, 2047 ≤ t.val + (w 0).val → g w = x (ix2 ⟨t.val + (w 0).val - 2047, hlt w⟩ e) := fun w h => dif_pos h
  have gneg : ∀ w : W.Idx, ¬ 2047 ≤ t.val + (w 0).val → g w = 0 := fun w h => dif_neg h
  refine (Finset.sum_congr rfl (g := fun n => g (W.rowMajor.symm n)) fun n _ => ?_).trans ?_
  · have hw0 : (W.rowMajor.symm n 0).val < 2048 := (W.rowMajor.symm n 0).isLt
    have hw1 : (W.rowMajor.symm n 1).val = 0 := by have : (W.rowMajor.symm n 1).val < 1 := (W.rowMajor.symm n 1).isLt; omega
    show _ = g (W.rowMajor.symm n)
    by_cases h : 2047 ≤ t.val + (W.rowMajor.symm n 0).val
    · have hin : ∀ a : Fin 2, (![2047, 0] : Fin 2 → Nat) a ≤ ((ix2 t e : S2048x8.Idx) a).val * (![1, 1] : Fin 2 → Nat) a + (W.rowMajor.symm n a).val
        ∧ ((ix2 t e : S2048x8.Idx) a).val * (![1, 1] : Fin 2 → Nat) a + (W.rowMajor.symm n a).val - (![2047, 0] : Fin 2 → Nat) a < S2048x8.size a := by
        intro a
        match a with
        | ⟨0, _⟩ =>
          show 2047 ≤ t.val * 1 + (W.rowMajor.symm n 0).val ∧ t.val * 1 + (W.rowMajor.symm n 0).val - 2047 < 2048
          omega
        | ⟨1, _⟩ =>
          show 0 ≤ e.val * 1 + (W.rowMajor.symm n 1).val ∧ e.val * 1 + (W.rowMajor.symm n 1).val - 0 < 8
          omega
      refine (dif_pos hin).trans ((congrArg x ?_).trans (gpos _ h).symm)
      refine (funext fun a => Fin.ext ?_)
      match a with
      | ⟨0, _⟩ =>
        show t.val * 1 + (W.rowMajor.symm n 0).val - 2047 = t.val + (W.rowMajor.symm n 0).val - 2047
        omega
      | ⟨1, _⟩ =>
        show e.val * 1 + (W.rowMajor.symm n 1).val - 0 = e.val
        omega
    · refine (dif_neg fun hin => ?_).trans (gneg _ h).symm
      have h1 := (hin 0).1
      change 2047 ≤ t.val * 1 + (W.rowMajor.symm n 0).val at h1
      omega
  rw [Equiv.sum_comp W.rowMajor.symm g, sum_idx2 (n0 := 2048) (n1 := 1)]
  simp only [Fin.sum_univ_one]
  show (∑ w : Fin 2048, if h : 2047 ≤ t.val + w.val then x (ix2 ⟨t.val + w.val - 2047, _⟩ e) else 0) = _
  refine Finset.sum_bij_ne_zero (fun w _ _ => ⟨t.val + w.val - 2047, by omega⟩) (fun _ _ _ => Finset.mem_univ _) ?_ ?_ ?_
  · intro a _ ha b _ hb hab
    have h1 : 2047 ≤ t.val + a.val := by by_contra h; simp [h] at ha
    have h2 : 2047 ≤ t.val + b.val := by by_contra h; simp [h] at hb
    have := congrArg Fin.val hab
    apply Fin.ext
    change t.val + a.val - 2047 = t.val + b.val - 2047 at this
    omega
  · intro s _ hs
    have hst : s ≤ t := by by_contra h; simp [h] at hs
    have hv := Fin.le_def.1 hst
    refine ⟨⟨s.val + 2047 - t.val, by omega⟩, Finset.mem_univ _, ?_, Fin.ext ?_⟩
    · have h1 : 2047 ≤ t.val + (s.val + 2047 - t.val) := by omega
      have h2 : (⟨t.val + (s.val + 2047 - t.val) - 2047, by omega⟩ : Fin 2048) = s := Fin.ext (by show t.val + (s.val + 2047 - t.val) - 2047 = s.val; omega)
      simp only [h1, h2, dif_pos]
      simpa [hst] using hs
    · show t.val + (s.val + 2047 - t.val) - 2047 = s.val
      omega
  · intro w _ hw
    have h1 : 2047 ≤ t.val + w.val := by by_contra h; simp [h] at hw
    have h2 : (⟨t.val + w.val - 2047, by omega⟩ : Fin 2048) ≤ t := Fin.le_def.2 (by show t.val + w.val - 2047 ≤ t.val; omega)
    simp only [h1, h2, dif_pos, if_true]

/-- Row `t` of the updates lands, at its coordinate `k`, in the slot that its two index words name. -/
theorem lands (idx : IVec S2048x2 32) (t : Fin 2048) (k : Fin 1024) (e : Fin 8) (c : Fin 512) (d : Fin 1024) :
    (scatter_S8x512x1024_S2048x2_S2048x1024_1_01_01_1).resultIdx? (ix2 t k) idx = some (ix3 e c d)
      ↔ ((idx (ix2 t 0)).toInt = e.val ∧ (idx (ix2 t 1)).toInt = c.val) ∧ k = d := by
  rw [Routing.resultIdx?_eq_some]
  have hst0 : (scatter_S8x512x1024_S2048x2_S2048x1024_1_01_01_1).start (ix2 t k) idx 0 = (idx (ix2 t 0)).toInt := by
    unfold ScatterDims.start
    rw [dif_pos (by decide)]
    refine congrArg (fun j => (idx j).toInt) (funext fun a => ?_)
    match a with
    | ⟨0, _⟩ => rfl
    | ⟨1, _⟩ => rfl
  have hst1 : (scatter_S8x512x1024_S2048x2_S2048x1024_1_01_01_1).start (ix2 t k) idx 1 = (idx (ix2 t 1)).toInt := by
    unfold ScatterDims.start
    rw [dif_pos (by decide)]
    refine congrArg (fun j => (idx j).toInt) (funext fun a => ?_)
    match a with
    | ⟨0, _⟩ => rfl
    | ⟨1, _⟩ => rfl
  have hst2 : (scatter_S8x512x1024_S2048x2_S2048x1024_1_01_01_1).start (ix2 t k) idx 2 = 0 := by
    unfold ScatterDims.start
    rw [dif_neg (by decide)]
  have hw0 : (scatter_S8x512x1024_S2048x2_S2048x1024_1_01_01_1).window (ix2 t k) 0 = 0 := by
    unfold ScatterDims.window
    rw [dif_neg (by decide)]
  have hw1 : (scatter_S8x512x1024_S2048x2_S2048x1024_1_01_01_1).window (ix2 t k) 1 = 0 := by
    unfold ScatterDims.window
    rw [dif_neg (by decide)]
  have hw2 : (scatter_S8x512x1024_S2048x2_S2048x1024_1_01_01_1).window (ix2 t k) 2 = k.val := by
    unfold ScatterDims.window
    rw [dif_pos (by decide)]
    rfl
  constructor
  · intro h
    have h0 := h 0
    have h1 := h 1
    have h2 := h 2
    rw [hst0, hw0] at h0
    rw [hst1, hw1] at h1
    rw [hst2, hw2] at h2
    change (idx (ix2 t 0)).toInt + (0 : ℕ) = (e.val : Int) at h0
    change (idx (ix2 t 1)).toInt + (0 : ℕ) = (c.val : Int) at h1
    change (0 : Int) + (k.val : Int) = (d.val : Int) at h2
    refine ⟨⟨by omega, by omega⟩, Fin.ext (by omega)⟩
  · rintro ⟨⟨h0, h1⟩, rfl⟩ a
    match a with
    | ⟨0, _⟩ =>
      refine (congrArg₂ (fun (p : Int) (q : Nat) => p + (q : Int)) hst0 hw0).trans ?_
      show (idx (ix2 t 0)).toInt + (0 : ℕ) = (e.val : Int)
      omega
    | ⟨1, _⟩ =>
      refine (congrArg₂ (fun (p : Int) (q : Nat) => p + (q : Int)) hst1 hw1).trans ?_
      show (idx (ix2 t 1)).toInt + (0 : ℕ) = (c.val : Int)
      omega
    | ⟨2, _⟩ =>
      refine (congrArg₂ (fun (p : Int) (q : Nat) => p + (q : Int)) hst2 hw2).trans ?_
      show (0 : Int) + (k.val : Int) = (k.val : Int)
      omega

/-- The scatter at one element: what was there plus the rows whose index words name its slot. -/
theorem scatter_at (x : FVec Ideal S8x512x1024 .f32) (idx : IVec S2048x2 32) (upd : FVec Ideal S2048x1024 .f32)
    (e : Fin 8) (c : Fin 512) (d : Fin 1024) :
    Host.scatterAdd scatter_S8x512x1024_S2048x2_S2048x1024_1_01_01_1 x idx upd (ix3 e c d)
      = x (ix3 e c d) + ∑ t : Fin 2048,
          if (idx (ix2 t 0)).toInt = e.val ∧ (idx (ix2 t 1)).toInt = c.val then upd (ix2 t d) else 0 := by
  show Ideal.hostScatterAdd scatter_S8x512x1024_S2048x2_S2048x1024_1_01_01_1 x idx upd (ix3 e c d) = _
  unfold Ideal.hostScatterAdd
  refine congrArg (x (ix3 e c d) + ·) ?_
  rw [Finset.sum_filter, sum_idx2 (n0 := 2048) (n1 := 1024)]
  refine Finset.sum_congr rfl fun t _ => ?_
  simp only [lands]
  by_cases h : (idx (ix2 t 0)).toInt = e.val ∧ (idx (ix2 t 1)).toInt = c.val
  · simp [h]
  · simp [h]

/-- The gather at one element: the row in the slot that the two index words name. -/
theorem gather_at (y : FVec Ideal S8x512x1024 .f32) (idx : IVec S2048x2 32) (t : Fin 2048) (d : Fin 1024) (e : Fin 8) (c : Fin 512)
    (h0 : (idx (ix2 t 0)).toInt = e.val) (h1 : (idx (ix2 t 1)).toInt = c.val) :
    Host.gather gather_S8x512x1024_S2048x2_S2048x1024_1_01_n_n_01_1_111024 y idx (ix2 t d) = y (ix3 e c d) := by
  unfold Host.gather
  have hst0 : (gather_S8x512x1024_S2048x2_S2048x1024_1_01_n_n_01_1_111024).start (ix2 t d) idx 0 = e.val := by
    unfold GatherDims.start
    rw [dif_pos (by decide)]
    have : (gather_S8x512x1024_S2048x2_S2048x1024_1_01_n_n_01_1_111024).siIdx (ix2 t d)
        ⟨(gather_S8x512x1024_S2048x2_S2048x1024_1_01_n_n_01_1_111024).startIndexMap.idxOf 0, by decide⟩ = ix2 t 0 := by
      funext a
      match a with
      | ⟨0, _⟩ => rfl
      | ⟨1, _⟩ => rfl
    rw [this, h0]
    show min ((e.val : Int)).toNat (8 - 1) = e.val
    omega
  have hst1 : (gather_S8x512x1024_S2048x2_S2048x1024_1_01_n_n_01_1_111024).start (ix2 t d) idx 1 = c.val := by
    unfold GatherDims.start
    rw [dif_pos (by decide)]
    have : (gather_S8x512x1024_S2048x2_S2048x1024_1_01_n_n_01_1_111024).siIdx (ix2 t d)
        ⟨(gather_S8x512x1024_S2048x2_S2048x1024_1_01_n_n_01_1_111024).startIndexMap.idxOf 1, by decide⟩ = ix2 t 1 := by
      funext a
      match a with
      | ⟨0, _⟩ => rfl
      | ⟨1, _⟩ => rfl
    rw [this, h1]
    show min ((c.val : Int)).toNat (512 - 1) = c.val
    omega
  have hst2 : (gather_S8x512x1024_S2048x2_S2048x1024_1_01_n_n_01_1_111024).start (ix2 t d) idx 2 = 0 := by
    unfold GatherDims.start
    rw [dif_neg (by decide)]
  refine congrArg y (funext fun a => Fin.ext ?_)
  match a with
  | ⟨0, _⟩ => exact (congrArg (· + 0 + 0) hst0)
  | ⟨1, _⟩ => exact (congrArg (· + 0 + 0) hst1)
  | ⟨2, _⟩ => exact (congrArg (· + 0 + d.val) hst2).trans (by simp)

end Cert.Moe.Ref

end
-- ==== Proof.RefRoute.lean ====
/- What the reference's routing segments leave, element by element: logits, gates, the two experts of a token, the
   normalised gates, the places in the queues, the slots and the keep flags. -/
module

public import proofs.«01_k».proof.Proof.RefRun
public import proofs.«01_k».proof.Proof.HostOps
public import proofs.«01_k».proof.Proof.Alg
public import Idealize.ShloMosaic.Lib.StableHlo.ReadAt
public import Idealize.ShloMosaic.Lib.Pointwise.Index
public import Idealize.ShloMosaic.Lib.Pointwise

@[expose] public section

set_option maxRecDepth 16384

noncomputable section

namespace Cert.Moe.Ref

open Idealize.ShloMosaic Idealize.SL.Sem Cert.ReferenceIdeal
open Cert.ReferenceIdeal.Facts₀ Cert.ReferenceIdeal.Facts

/-- A one-hot entry as the reference writes it. -/
theorem hot_ref (i e : Fin 8) :
    FloatOps.uitofp (F := Ideal) .f32 (IntOp.cmpi .eq (BitVec.ofNat 32 i.val) (BitVec.ofNat 32 e.val)) = hot i e := by
  have h : IntOp.cmpi .eq (BitVec.ofNat 32 i.val) (BitVec.ofNat 32 e.val) = BitVec.ofBool (decide (e = i)) := by
    revert i e; decide
  rw [h]
  show ((((BitVec.ofBool (decide (e = i))).toNat : ℝ)) : EReal) = hot i e
  unfold hot
  by_cases h : e = i <;> simp [h]

/-- A keep flag as the reference writes it. -/
theorem keep_ref (n : ℕ) :
    FloatOps.uitofp (F := Ideal) .f32 (BitVec.ofBool (decide (num n < Ideal.ofBits .f32 1140850688#32))) = keep n := by
  show ((((BitVec.ofBool (decide (num n < Ideal.ofBits .f32 1140850688#32))).toNat : ℝ)) : EReal) = keep n
  simp only [num_lt_cap]
  unfold keep
  by_cases h : n < 512 <;> simp [h]

/-- A masked logit as the reference writes it. -/
theorem mask_ref (L : Fin 2048 → Fin 8 → EReal) (t : Fin 2048) (e : Fin 8) :
    (if (0 : EReal) < hot (e1 L t) e then id (constant (F := Ideal) S_ .f32 4286578688#32) ix0 else L t e) = masked L t e := by
  unfold hot masked
  by_cases h : e = e1 L t
  · rw [if_pos h, if_pos zero_lt_one, if_pos h]
    exact neg_inf
  · rw [if_neg h, if_neg (lt_irrefl _), if_neg h]

variable (V : Valuation τ sig (Elt Ideal))

/-- Segment 0: the flattened tokens. -/
theorem v0_at (t : Fin 2048) (k : Fin 1024) :
    (StableHlo.after ops0 V (Proc.devRef .tc main_v0) (ix2 t k) : Elt Ideal .f32) = V (Proc.devRef .tc main_arg0) (ix3 0 t k) := by
  after_reads_at

/-- Segment 0: the logits. -/
theorem v1_at (t : Fin 2048) (e : Fin 8) :
    (StableHlo.after ops0 V (Proc.devRef .tc main_v1) (ix2 t e) : Elt Ideal .f32)
      = logits (fun t k => V (Proc.devRef .tc main_arg0) (ix3 0 t k)) (fun k e => V (Proc.devRef .tc main_arg1) (ix2 k e)) t e := by
  after_reads_at
  rfl

/-- Segment 0: the gates. -/
theorem v12_at (t : Fin 2048) (e : Fin 8) :
    (StableHlo.after ops0 V (Proc.devRef .tc main_v12) (ix2 t e) : Elt Ideal .f32)
      = gate (logits (fun t k => V (Proc.devRef .tc main_arg0) (ix3 0 t k)) (fun k e => V (Proc.devRef .tc main_arg1) (ix2 k e))) t e := by
  after_reads_at
  rw [show Ideal.ofBits .f32 4286578688#32 = (⊥ : EReal) from neg_inf]
  simp only [bot_sup_eq, fold_max]
  rfl

/-- Segment 1: the first expert. -/
theorem v13_at (G : Fin 2048 → Fin 8 → EReal) (hG : ∀ t e, (V (Proc.devRef .tc main_v12) (ix2 t e) : Elt Ideal .f32) = G t e) (t : Fin 2048) :
    (StableHlo.after ops1 V (Proc.devRef .tc main_v13) (ix1 t) : Elt Ideal .i32) = BitVec.ofNat 32 (top (G t)).val := by
  after_reads_at
  rw [argmax_at]
  simp only [hG]

/-- Segment 1: its one-hot row. -/
theorem v14_at (G : Fin 2048 → Fin 8 → EReal) (hG : ∀ t e, (V (Proc.devRef .tc main_v12) (ix2 t e) : Elt Ideal .f32) = G t e) (t : Fin 2048) (e : Fin 8) :
    (StableHlo.after ops1 V (Proc.devRef .tc main_v14) (ix2 t e) : Elt Ideal .f32) = hot (top (G t)) e := by
  after_reads_at
  rw [argmax_at]
  simp only [hG]
  exact hot_ref _ _

section two
variable (L : Fin 2048 → Fin 8 → EReal)
  (h1 : ∀ t e, (V (Proc.devRef .tc main_v1) (ix2 t e) : Elt Ideal .f32) = L t e)
  (h14 : ∀ t e, (V (Proc.devRef .tc main_v14) (ix2 t e) : Elt Ideal .f32) = hot (e1 L t) e)
include h1 h14

/-- Segment 2: the logits with the first expert's masked. -/
theorem v17_at (t : Fin 2048) (e : Fin 8) :
    (StableHlo.after ops2 V (Proc.devRef .tc main_v17) (ix2 t e) : Elt Ideal .f32) = masked L t e := by
  after_reads_at
  rw [h1, h14]
  exact mask_ref L t e

/-- Segment 2: the second expert. -/
theorem v18_at (t : Fin 2048) :
    (StableHlo.after ops2 V (Proc.devRef .tc main_v18) (ix1 t) : Elt Ideal .i32) = BitVec.ofNat 32 (e2 L t).val := by
  after_reads_at
  rw [argmax_at]
  refine congrArg (fun f => BitVec.ofNat 32 (top f).val) (funext fun e => ?_)
  pointwise
  rw [h1, h14]
  exact mask_ref L t e

/-- Segment 2: its one-hot row. -/
theorem v19_at (t : Fin 2048) (e : Fin 8) :
    (StableHlo.after ops2 V (Proc.devRef .tc main_v19) (ix2 t e) : Elt Ideal .f32) = hot (e2 L t) e := by
  after_reads_at
  rw [argmax_at]
  refine (hot_ref _ _).trans (congrArg (fun f => hot (top f) e) (funext fun e => ?_))
  pointwise
  rw [h1, h14]
  exact mask_ref L t e
end two

section three
variable (L : Fin 2048 → Fin 8 → EReal)
  (h12 : ∀ t e, (V (Proc.devRef .tc main_v12) (ix2 t e) : Elt Ideal .f32) = gate L t e)
  (h14 : ∀ t e, (V (Proc.devRef .tc main_v14) (ix2 t e) : Elt Ideal .f32) = hot (e1 L t) e)
  (h19 : ∀ t e, (V (Proc.devRef .tc main_v19) (ix2 t e) : Elt Ideal .f32) = hot (e2 L t) e)
include h12 h14 h19

/-- Segment 3: the first normalised gate. -/
theorem v27_at (t : Fin 2048) :
    (StableHlo.after ops3 V (Proc.devRef .tc main_v27) (ix1 t) : Elt Ideal .f32) = n1 L t := by
  after_reads_at
  simp only [h12, h14, h19, sum_hot_mul]
  rfl

/-- Segment 3: the second normalised gate. -/
theorem v28_at (t : Fin 2048) :
    (StableHlo.after ops3 V (Proc.devRef .tc main_v28) (ix1 t) : Elt Ideal .f32) = n2 L t := by
  after_reads_at
  simp only [h12, h14, h19, sum_hot_mul]
  rfl
end three

section four
variable (i j : Fin 2048 → Fin 8)
  (h14 : ∀ t e, (V (Proc.devRef .tc main_v14) (ix2 t e) : Elt Ideal .f32) = hot (i t) e)
  (h19 : ∀ t e, (V (Proc.devRef .tc main_v19) (ix2 t e) : Elt Ideal .f32) = hot (j t) e)
include h14

/-- Segment 4: the places at the first choice. -/
theorem v30_at (t : Fin 2048) (e : Fin 8) :
    (StableHlo.after ops4 V (Proc.devRef .tc main_v30) (ix2 t e) : Elt Ideal .f32) = num (q1 i t e) := by
  after_reads_at
  rw [cumsum_at]
  simp only [h14]
  exact running_hot i t e

include h19

/-- Segment 4: the places at the second choice. -/
theorem v36_at (t : Fin 2048) (e : Fin 8) :
    (StableHlo.after ops4 V (Proc.devRef .tc main_v36) (ix2 t e) : Elt Ideal .f32) = num (q2 i j t e) := by
  after_reads_at
  rw [cumsum_at]
  simp only [h14, h19]
  rw [running_hot j t e, sum_hot, ← num_add]
  rfl
end four

section five
variable (i j : Fin 2048 → Fin 8) (a b : Fin 2048 → Fin 8 → ℕ)

/-- Segment 5: the slot at the first choice. -/
theorem v47_at (h14 : ∀ t e, (V (Proc.devRef .tc main_v14) (ix2 t e) : Elt Ideal .f32) = hot (i t) e)
    (h30 : ∀ t e, (V (Proc.devRef .tc main_v30) (ix2 t e) : Elt Ideal .f32) = num (a t e)) (t : Fin 2048) :
    (StableHlo.after ops5 V (Proc.devRef .tc main_v47) (ix1 t) : Elt Ideal .i32) = BitVec.ofNat 32 (slot (a t (i t))) := by
  after_reads_at
  simp only [h14, h30, keep_ref]
  rw [sum_slot]
  exact fptosi_slot _

/-- Segment 5: the keep flag at the first choice. -/
theorem v51_at (h14 : ∀ t e, (V (Proc.devRef .tc main_v14) (ix2 t e) : Elt Ideal .f32) = hot (i t) e)
    (h30 : ∀ t e, (V (Proc.devRef .tc main_v30) (ix2 t e) : Elt Ideal .f32) = num (a t e)) (t : Fin 2048) :
    (StableHlo.after ops5 V (Proc.devRef .tc main_v51) (ix1 t) : Elt Ideal .f32) = keep (a t (i t)) := by
  after_reads_at
  simp only [h14, h30, keep_ref]
  exact sum_keep _ _

/-- Segment 5: the slot at the second choice. -/
theorem v50_at (h19 : ∀ t e, (V (Proc.devRef .tc main_v19) (ix2 t e) : Elt Ideal .f32) = hot (j t) e)
    (h36 : ∀ t e, (V (Proc.devRef .tc main_v36) (ix2 t e) : Elt Ideal .f32) = num (b t e)) (t : Fin 2048) :
    (StableHlo.after ops5 V (Proc.devRef .tc main_v50) (ix1 t) : Elt Ideal .i32) = BitVec.ofNat 32 (slot (b t (j t))) := by
  after_reads_at
  simp only [h19, h36, keep_ref]
  rw [sum_slot]
  exact fptosi_slot _

/-- Segment 5: the keep flag at the second choice. -/
theorem v52_at (h19 : ∀ t e, (V (Proc.devRef .tc main_v19) (ix2 t e) : Elt Ideal .f32) = hot (j t) e)
    (h36 : ∀ t e, (V (Proc.devRef .tc main_v36) (ix2 t e) : Elt Ideal .f32) = num (b t e)) (t : Fin 2048) :
    (StableHlo.after ops5 V (Proc.devRef .tc main_v52) (ix1 t) : Elt Ideal .f32) = keep (b t (j t)) := by
  after_reads_at
  simp only [h19, h36, keep_ref]
  exact sum_keep _ _
end five

end Cert.Moe.Ref

end
-- ==== Proof.RefRows.lean ====
/- What the reference's remaining segments leave, element by element: the rows and slots of the two scatters, the
   experts' affine maps, the gathered rows weighed by the kept gates, their sums and the log-softmax. -/
module

public import proofs.«01_k».proof.Proof.RefRoute

@[expose] public section

set_option maxRecDepth 16384

noncomputable section

namespace Cert.Moe.Ref

open Idealize.ShloMosaic Idealize.SL.Sem Cert.ReferenceIdeal
open Cert.ReferenceIdeal.Facts₀ Cert.ReferenceIdeal.Facts

/-- An index that is not negative is not wrapped, and reads as its number. -/
theorem wrap_small (n : ℕ) (h : n < 2 ^ 31) (a : BitVec 32) :
    (Scalar.select (IntOp.cmpi .slt (BitVec.ofNat 32 n) 0#32) a (BitVec.ofNat 32 n)).toInt = n := by
  rw [Routing.wrap_of_lt _ _ (by rw [BitVec.toNat_ofNat]; omega), toInt_small n h]

variable (V : Valuation τ sig (Elt Ideal))

section pairs
variable (i : Fin 2048 → Fin 8) (n : Fin 2048 → ℕ)

/-- Segment 6: the experts of the scattered first choices. -/
theorem v69_at0 (h : ∀ t, (V (Proc.devRef .tc main_v13) (ix1 t) : Elt Ideal .i32) = BitVec.ofNat 32 (i t).val) (t : Fin 2048) :
    (StableHlo.after ops6 V (Proc.devRef .tc main_v69) (ix2 t 0) : Elt Ideal .i32).toInt = (i t).val := by
  have hr : (StableHlo.after ops6 V (Proc.devRef .tc main_v69) (ix2 t 0) : Elt Ideal .i32)
      = Scalar.select (IntOp.cmpi .slt (BitVec.ofNat 32 (i t).val) 0#32) (IntOp.addi (BitVec.ofNat 32 (i t).val) 8#32) (BitVec.ofNat 32 (i t).val) := by
    after_reads_at
    rw [h]
  rw [hr]
  exact wrap_small _ (by omega) _

/-- Segment 6: the slots of the scattered first choices. -/
theorem v69_at1 (hn : ∀ t, n t < 512) (h : ∀ t, (V (Proc.devRef .tc main_v47) (ix1 t) : Elt Ideal .i32) = BitVec.ofNat 32 (n t)) (t : Fin 2048) :
    (StableHlo.after ops6 V (Proc.devRef .tc main_v69) (ix2 t 1) : Elt Ideal .i32).toInt = n t := by
  have hr : (StableHlo.after ops6 V (Proc.devRef .tc main_v69) (ix2 t 1) : Elt Ideal .i32)
      = Scalar.select (IntOp.cmpi .slt (BitVec.ofNat 32 (n t)) 0#32) (IntOp.addi (BitVec.ofNat 32 (n t)) 512#32) (BitVec.ofNat 32 (n t)) := by
    after_reads_at
    rw [h]
  rw [hr]
  exact wrap_small _ (by have := hn t; omega) _

/-- Segment 8: the experts of the scattered second choices. -/
theorem v86_at0 (h : ∀ t, (V (Proc.devRef .tc main_v18) (ix1 t) : Elt Ideal .i32) = BitVec.ofNat 32 (i t).val) (t : Fin 2048) :
    (StableHlo.after ops8 V (Proc.devRef .tc main_v86) (ix2 t 0) : Elt Ideal .i32).toInt = (i t).val := by
  have hr : (StableHlo.after ops8 V (Proc.devRef .tc main_v86) (ix2 t 0) : Elt Ideal .i32)
      = Scalar.select (IntOp.cmpi .slt (BitVec.ofNat 32 (i t).val) 0#32) (IntOp.addi (BitVec.ofNat 32 (i t).val) 8#32) (BitVec.ofNat 32 (i t).val) := by
    after_reads_at
    rw [h]
  rw [hr]
  exact wrap_small _ (by omega) _

/-- Segment 8: the slots of the scattered second choices. -/
theorem v86_at1 (hn : ∀ t, n t < 512) (h : ∀ t, (V (Proc.devRef .tc main_v50) (ix1 t) : Elt Ideal .i32) = BitVec.ofNat 32 (n t)) (t : Fin 2048) :
    (StableHlo.after ops8 V (Proc.devRef .tc main_v86) (ix2 t 1) : Elt Ideal .i32).toInt = n t := by
  have hr : (StableHlo.after ops8 V (Proc.devRef .tc main_v86) (ix2 t 1) : Elt Ideal .i32)
      = Scalar.select (IntOp.cmpi .slt (BitVec.ofNat 32 (n t)) 0#32) (IntOp.addi (BitVec.ofNat 32 (n t)) 512#32) (BitVec.ofNat 32 (n t)) := by
    after_reads_at
    rw [h]
  rw [hr]
  exact wrap_small _ (by have := hn t; omega) _

/-- Segment 11: the experts of the gathered first choices. -/
theorem v110_at0 (h : ∀ t, (V (Proc.devRef .tc main_v13) (ix1 t) : Elt Ideal .i32) = BitVec.ofNat 32 (i t).val) (t : Fin 2048) :
    (StableHlo.after ops11 V (Proc.devRef .tc main_v110) (ix2 t 0) : Elt Ideal .i32).toInt = (i t).val := by
  have hr : (StableHlo.after ops11 V (Proc.devRef .tc main_v110) (ix2 t 0) : Elt Ideal .i32)
      = Scalar.select (IntOp.cmpi .slt (BitVec.ofNat 32 (i t).val) 0#32) (IntOp.addi (BitVec.ofNat 32 (i t).val) 8#32) (BitVec.ofNat 32 (i t).val) := by
    after_reads_at
    rw [h]
  rw [hr]
  exact wrap_small _ (by omega) _

/-- Segment 11: the slots of the gathered first choices. -/
theorem v110_at1 (hn : ∀ t, n t < 512) (h : ∀ t, (V (Proc.devRef .tc main_v47) (ix1 t) : Elt Ideal .i32) = BitVec.ofNat 32 (n t)) (t : Fin 2048) :
    (StableHlo.after ops11 V (Proc.devRef .tc main_v110) (ix2 t 1) : Elt Ideal .i32).toInt = n t := by
  have hr : (StableHlo.after ops11 V (Proc.devRef .tc main_v110) (ix2 t 1) : Elt Ideal .i32)
      = Scalar.select (IntOp.cmpi .slt (BitVec.ofNat 32 (n t)) 0#32) (IntOp.addi (BitVec.ofNat 32 (n t)) 512#32) (BitVec.ofNat 32 (n t)) := by
    after_reads_at
    rw [h]
  rw [hr]
  exact wrap_small _ (by have := hn t; omega) _

/-- Segment 13: the experts of the gathered second choices. -/
theorem v128_at0 (h : ∀ t, (V (Proc.devRef .tc main_v18) (ix1 t) : Elt Ideal .i32) = BitVec.ofNat 32 (i t).val) (t : Fin 2048) :
    (StableHlo.after ops13 V (Proc.devRef .tc main_v128) (ix2 t 0) : Elt Ideal .i32).toInt = (i t).val := by
  have hr : (StableHlo.after ops13 V (Proc.devRef .tc main_v128) (ix2 t 0) : Elt Ideal .i32)
      = Scalar.select (IntOp.cmpi .slt (BitVec.ofNat 32 (i t).val) 0#32) (IntOp.addi (BitVec.ofNat 32 (i t).val) 8#32) (BitVec.ofNat 32 (i t).val) := by
    after_reads_at
    rw [h]
  rw [hr]
  exact wrap_small _ (by omega) _

/-- Segment 13: the slots of the gathered second choices. -/
theorem v128_at1 (hn : ∀ t, n t < 512) (h : ∀ t, (V (Proc.devRef .tc main_v50) (ix1 t) : Elt Ideal .i32) = BitVec.ofNat 32 (n t)) (t : Fin 2048) :
    (StableHlo.after ops13 V (Proc.devRef .tc main_v128) (ix2 t 1) : Elt Ideal .i32).toInt = n t := by
  have hr : (StableHlo.after ops13 V (Proc.devRef .tc main_v128) (ix2 t 1) : Elt Ideal .i32)
      = Scalar.select (IntOp.cmpi .slt (BitVec.ofNat 32 (n t)) 0#32) (IntOp.addi (BitVec.ofNat 32 (n t)) 512#32) (BitVec.ofNat 32 (n t)) := by
    after_reads_at
    rw [h]
  rw [hr]
  exact wrap_small _ (by have := hn t; omega) _
end pairs

/-- Segment 6: the empty slots. -/
theorem v53_at (e : Fin 8) (c : Fin 512) (d : Fin 1024) :
    (StableHlo.after ops6 V (Proc.devRef .tc main_v53) (ix3 e c d) : Elt Ideal .f32) = (0 : EReal) := by
  after_reads_at

/-- Segment 6: a token's row times its first keep flag. -/
theorem v56_at (x : Fin 2048 → Fin 1024 → EReal) (k : Fin 2048 → EReal)
    (hx : ∀ t d, (V (Proc.devRef .tc main_v0) (ix2 t d) : Elt Ideal .f32) = x t d)
    (hk : ∀ t, (V (Proc.devRef .tc main_v51) (ix1 t) : Elt Ideal .f32) = k t) (t : Fin 2048) (d : Fin 1024) :
    (StableHlo.after ops6 V (Proc.devRef .tc main_v56) (ix2 t d) : Elt Ideal .f32) = x t d * k t := by
  after_reads_at
  rw [hx, hk]

/-- Segment 8: a token's row times its second keep flag. -/
theorem v73_at (x : Fin 2048 → Fin 1024 → EReal) (k : Fin 2048 → EReal)
    (hx : ∀ t d, (V (Proc.devRef .tc main_v0) (ix2 t d) : Elt Ideal .f32) = x t d)
    (hk : ∀ t, (V (Proc.devRef .tc main_v52) (ix1 t) : Elt Ideal .f32) = k t) (t : Fin 2048) (d : Fin 1024) :
    (StableHlo.after ops8 V (Proc.devRef .tc main_v73) (ix2 t d) : Elt Ideal .f32) = x t d * k t := by
  after_reads_at
  rw [hx, hk]

/-- Segment 7: the rows of the first choices in their slots. -/
theorem v70_at (i : Fin 2048 → Fin 8) (n : Fin 2048 → ℕ) (z : Fin 8 → Fin 512 → Fin 1024 → EReal) (u : Fin 2048 → Fin 1024 → EReal)
    (h0 : ∀ t, (V (Proc.devRef .tc main_v69) (ix2 t 0) : Elt Ideal .i32).toInt = (i t).val)
    (h1 : ∀ t, (V (Proc.devRef .tc main_v69) (ix2 t 1) : Elt Ideal .i32).toInt = n t)
    (hz : ∀ e c d, (V (Proc.devRef .tc main_v53) (ix3 e c d) : Elt Ideal .f32) = z e c d)
    (hu : ∀ t d, (V (Proc.devRef .tc main_v56) (ix2 t d) : Elt Ideal .f32) = u t d)
    (e : Fin 8) (c : Fin 512) (d : Fin 1024) :
    (StableHlo.after ops7 V (Proc.devRef .tc main_v70) (ix3 e c d) : Elt Ideal .f32)
      = z e c d + ∑ t, if i t = e ∧ n t = c.val then u t d else 0 := by
  after_reads_at
  rw [scatter_at, hz]
  refine congrArg (z e c d + ·) (Finset.sum_congr rfl fun t _ => ?_)
  rw [hu]
  refine if_congr ?_ rfl rfl
  rw [h0, h1, Nat.cast_inj, Nat.cast_inj, Fin.val_inj]

/-- Segment 9: the rows of the second choices added in theirs. -/
theorem v87_at (i : Fin 2048 → Fin 8) (n : Fin 2048 → ℕ) (z : Fin 8 → Fin 512 → Fin 1024 → EReal) (u : Fin 2048 → Fin 1024 → EReal)
    (h0 : ∀ t, (V (Proc.devRef .tc main_v86) (ix2 t 0) : Elt Ideal .i32).toInt = (i t).val)
    (h1 : ∀ t, (V (Proc.devRef .tc main_v86) (ix2 t 1) : Elt Ideal .i32).toInt = n t)
    (hz : ∀ e c d, (V (Proc.devRef .tc main_v70) (ix3 e c d) : Elt Ideal .f32) = z e c d)
    (hu : ∀ t d, (V (Proc.devRef .tc main_v73) (ix2 t d) : Elt Ideal .f32) = u t d)
    (e : Fin 8) (c : Fin 512) (d : Fin 1024) :
    (StableHlo.after ops9 V (Proc.devRef .tc main_v87) (ix3 e c d) : Elt Ideal .f32)
      = z e c d + ∑ t, if i t = e ∧ n t = c.val then u t d else 0 := by
  after_reads_at
  rw [scatter_at, hz]
  refine congrArg (z e c d + ·) (Finset.sum_congr rfl fun t _ => ?_)
  rw [hu]
  refine if_congr ?_ rfl rfl
  rw [h0, h1, Nat.cast_inj, Nat.cast_inj, Fin.val_inj]

/-- Segment 10: the experts' affine maps of the slots. -/
theorem v95_at (b : Fin 8 → Fin 512 → Fin 1024 → EReal) (w1 : Fin 8 → Fin 1024 → Fin 4096 → EReal) (b1 : Fin 8 → Fin 4096 → EReal)
    (w2 : Fin 8 → Fin 4096 → Fin 1024 → EReal) (b2 : Fin 8 → Fin 1024 → EReal)
    (hb : ∀ e c d, (V (Proc.devRef .tc main_v87) (ix3 e c d) : Elt Ideal .f32) = b e c d)
    (hw1 : ∀ e k h, (V (Proc.devRef .tc main_arg2) (ix3 e k h) : Elt Ideal .f32) = w1 e k h)
    (hb1 : ∀ e h, (V (Proc.devRef .tc main_arg3) (ix2 e h) : Elt Ideal .f32) = b1 e h)
    (hw2 : ∀ e h d, (V (Proc.devRef .tc main_arg4) (ix3 e h d) : Elt Ideal .f32) = w2 e h d)
    (hb2 : ∀ e d, (V (Proc.devRef .tc main_arg5) (ix2 e d) : Elt Ideal .f32) = b2 e d)
    (e : Fin 8) (c : Fin 512) (d : Fin 1024) :
    (StableHlo.after ops10 V (Proc.devRef .tc main_v95) (ix3 e c d) : Elt Ideal .f32)
      = ∑ h, (∑ k, b e c k * w1 e k h + b1 e h) * w2 e h d + b2 e d := by
  after_reads_at
  simp only [hb, hw1, hb1, hw2, hb2]

/-- Segment 11: the first normalised gate times its keep flag. -/
theorem v97_at (g k : Fin 2048 → EReal)
    (hg : ∀ t, (V (Proc.devRef .tc main_v27) (ix1 t) : Elt Ideal .f32) = g t)
    (hk : ∀ t, (V (Proc.devRef .tc main_v51) (ix1 t) : Elt Ideal .f32) = k t) (t : Fin 2048) :
    (StableHlo.after ops11 V (Proc.devRef .tc main_v97) (ix2 t 0) : Elt Ideal .f32) = g t * k t := by
  after_reads_at
  rw [hg, hk]

/-- Segment 13: the second normalised gate times its keep flag. -/
theorem v115_at (g k : Fin 2048 → EReal)
    (hg : ∀ t, (V (Proc.devRef .tc main_v28) (ix1 t) : Elt Ideal .f32) = g t)
    (hk : ∀ t, (V (Proc.devRef .tc main_v52) (ix1 t) : Elt Ideal .f32) = k t) (t : Fin 2048) :
    (StableHlo.after ops13 V (Proc.devRef .tc main_v115) (ix2 t 0) : Elt Ideal .f32) = g t * k t := by
  after_reads_at
  rw [hg, hk]

/-- Segment 12: the row in the first choice's slot, weighed. -/
theorem v113_at (g : Fin 2048 → EReal) (y : Fin 8 → Fin 512 → Fin 1024 → EReal)
    (hg : ∀ t, (V (Proc.devRef .tc main_v97) (ix2 t 0) : Elt Ideal .f32) = g t)
    (hy : ∀ e c d, (V (Proc.devRef .tc main_v95) (ix3 e c d) : Elt Ideal .f32) = y e c d)
    (t : Fin 2048) (d : Fin 1024) (e : Fin 8) (c : Fin 512)
    (h0 : (V (Proc.devRef .tc main_v110) (ix2 t 0) : Elt Ideal .i32).toInt = e.val)
    (h1 : (V (Proc.devRef .tc main_v110) (ix2 t 1) : Elt Ideal .i32).toInt = c.val) :
    (StableHlo.after ops12 V (Proc.devRef .tc main_v113) (ix2 t d) : Elt Ideal .f32) = g t * y e c d := by
  after_reads_at
  rw [gather_at _ _ t d e c h0 h1]
  exact congrArg₂ (fun a b : EReal => a * b) (hg t) (hy e c d)

/-- Segment 14: the row in the second choice's slot, weighed. -/
theorem v131_at (g : Fin 2048 → EReal) (y : Fin 8 → Fin 512 → Fin 1024 → EReal)
    (hg : ∀ t, (V (Proc.devRef .tc main_v115) (ix2 t 0) : Elt Ideal .f32) = g t)
    (hy : ∀ e c d, (V (Proc.devRef .tc main_v95) (ix3 e c d) : Elt Ideal .f32) = y e c d)
    (t : Fin 2048) (d : Fin 1024) (e : Fin 8) (c : Fin 512)
    (h0 : (V (Proc.devRef .tc main_v128) (ix2 t 0) : Elt Ideal .i32).toInt = e.val)
    (h1 : (V (Proc.devRef .tc main_v128) (ix2 t 1) : Elt Ideal .i32).toInt = c.val) :
    (StableHlo.after ops14 V (Proc.devRef .tc main_v131) (ix2 t d) : Elt Ideal .f32) = g t * y e c d := by
  after_reads_at
  rw [gather_at _ _ t d e c h0 h1]
  exact congrArg₂ (fun a b : EReal => a * b) (hg t) (hy e c d)

/-- Segment 15: the weighed rows added and summed over the output features. -/
theorem v134_at (p q : Fin 2048 → Fin 1024 → EReal)
    (hp : ∀ t d, (V (Proc.devRef .tc main_v113) (ix2 t d) : Elt Ideal .f32) = p t d)
    (hq : ∀ t d, (V (Proc.devRef .tc main_v131) (ix2 t d) : Elt Ideal .f32) = q t d) (t : Fin 2048) :
    (StableHlo.after ops15 V (Proc.devRef .tc main_v134) (ix2 0 t) : Elt Ideal .f32) = ∑ d, (p t d + q t d) := by
  after_reads_at
  simp only [hp, hq]

/-- Segment 16: the log-softmax over tokens. -/
theorem v135_at (o : Fin 2048 → EReal)
    (ho : ∀ t, (V (Proc.devRef .tc main_v134) (ix2 0 t) : Elt Ideal .f32) = o t) (t : Fin 2048) :
    (StableHlo.after ops16 V (Proc.devRef .tc main_v135) (ix2 0 t) : Elt Ideal .f32) = lsm o t := by
  after_reads_at
  simp only [ho]
  rw [show Ideal.ofBits .f32 4286578688#32 = (⊥ : EReal) from neg_inf]
  simp only [bot_sup_eq]
  rfl

end Cert.Moe.Ref

end
-- ==== Proof.RefValue.lean ====
/- The reference's result as a function of its arguments: the readings of its segments composed. -/
module

public import proofs.«01_k».proof.Proof.RefRows

@[expose] public section

set_option maxRecDepth 16384

noncomputable section

namespace Cert.Moe.Ref

open Idealize.ShloMosaic Idealize.SL.Sem Cert.ReferenceIdeal

variable (V : Valuation τ sig (Elt Ideal))

/-! Buffers carried unchanged over the segments between where they are written and where they are read. -/
theorem c_v0_5 : U5 V (Proc.devRef .tc main_v0) = U0 V (Proc.devRef .tc main_v0) :=
  (((((pass5 _ (by decide)).trans (pass4 _ (by decide)))).trans (pass3 _ (by decide))).trans (pass2 _ (by decide))).trans (pass1 _ (by decide))
/-- `main_v0` after segment 7 is what it was after segment 0. -/
theorem c_v0_7 : U7 V (Proc.devRef .tc main_v0) = U0 V (Proc.devRef .tc main_v0) :=
  (((((((pass7 _ (by decide)).trans (pass6 _ (by decide)))).trans (pass5 _ (by decide))).trans (pass4 _ (by decide))).trans (pass3 _ (by decide))).trans (pass2 _ (by decide))).trans (pass1 _ (by decide))
/-- `main_v1` after segment 1 is what it was after segment 0. -/
theorem c_v1_1 : U1 V (Proc.devRef .tc main_v1) = U0 V (Proc.devRef .tc main_v1) :=
  (pass1 _ (by decide))
/-- `main_v12` after segment 2 is what it was after segment 0. -/
theorem c_v12_2 : U2 V (Proc.devRef .tc main_v12) = U0 V (Proc.devRef .tc main_v12) :=
  ((pass2 _ (by decide)).trans (pass1 _ (by decide)))
/-- `main_v13` after segment 5 is what it was after segment 1. -/
theorem c_v13_5 : U5 V (Proc.devRef .tc main_v13) = U1 V (Proc.devRef .tc main_v13) :=
  ((((pass5 _ (by decide)).trans (pass4 _ (by decide)))).trans (pass3 _ (by decide))).trans (pass2 _ (by decide))
/-- `main_v13` after segment 10 is what it was after segment 1. -/
theorem c_v13_10 : U10 V (Proc.devRef .tc main_v13) = U1 V (Proc.devRef .tc main_v13) :=
  (((((((((pass10 _ (by decide)).trans (pass9 _ (by decide)))).trans (pass8 _ (by decide))).trans (pass7 _ (by decide))).trans (pass6 _ (by decide))).trans (pass5 _ (by decide))).trans (pass4 _ (by decide))).trans (pass3 _ (by decide))).trans (pass2 _ (by decide))
/-- `main_v14` after segment 2 is what it was after segment 1. -/
theorem c_v14_2 : U2 V (Proc.devRef .tc main_v14) = U1 V (Proc.devRef .tc main_v14) :=
  (pass2 _ (by decide))
/-- `main_v14` after segment 3 is what it was after segment 1. -/
theorem c_v14_3 : U3 V (Proc.devRef .tc main_v14) = U1 V (Proc.devRef .tc main_v14) :=
  ((pass3 _ (by decide)).trans (pass2 _ (by decide)))
/-- `main_v14` after segment 4 is what it was after segment 1. -/
theorem c_v14_4 : U4 V (Proc.devRef .tc main_v14) = U1 V (Proc.devRef .tc main_v14) :=
  (((pass4 _ (by decide)).trans (pass3 _ (by decide)))).trans (pass2 _ (by decide))
/-- `main_v18` after segment 7 is what it was after segment 2. -/
theorem c_v18_7 : U7 V (Proc.devRef .tc main_v18) = U2 V (Proc.devRef .tc main_v18) :=
  (((((pass7 _ (by decide)).trans (pass6 _ (by decide)))).trans (pass5 _ (by decide))).trans (pass4 _ (by decide))).trans (pass3 _ (by decide))
/-- `main_v18` after segment 12 is what it was after segment 2. -/
theorem c_v18_12 : U12 V (Proc.devRef .tc main_v18) = U2 V (Proc.devRef .tc main_v18) :=
  ((((((((((pass12 _ (by decide)).trans (pass11 _ (by decide)))).trans (pass10 _ (by decide))).trans (pass9 _ (by decide))).trans (pass8 _ (by decide))).trans (pass7 _ (by decide))).trans (pass6 _ (by decide))).trans (pass5 _ (by decide))).trans (pass4 _ (by decide))).trans (pass3 _ (by decide))
/-- `main_v19` after segment 3 is what it was after segment 2. -/
theorem c_v19_3 : U3 V (Proc.devRef .tc main_v19) = U2 V (Proc.devRef .tc main_v19) :=
  (pass3 _ (by decide))
/-- `main_v19` after segment 4 is what it was after segment 2. -/
theorem c_v19_4 : U4 V (Proc.devRef .tc main_v19) = U2 V (Proc.devRef .tc main_v19) :=
  ((pass4 _ (by decide)).trans (pass3 _ (by decide)))
/-- `main_v27` after segment 10 is what it was after segment 3. -/
theorem c_v27_10 : U10 V (Proc.devRef .tc main_v27) = U3 V (Proc.devRef .tc main_v27) :=
  (((((((pass10 _ (by decide)).trans (pass9 _ (by decide)))).trans (pass8 _ (by decide))).trans (pass7 _ (by decide))).trans (pass6 _ (by decide))).trans (pass5 _ (by decide))).trans (pass4 _ (by decide))
/-- `main_v28` after segment 12 is what it was after segment 3. -/
theorem c_v28_12 : U12 V (Proc.devRef .tc main_v28) = U3 V (Proc.devRef .tc main_v28) :=
  (((((((((pass12 _ (by decide)).trans (pass11 _ (by decide)))).trans (pass10 _ (by decide))).trans (pass9 _ (by decide))).trans (pass8 _ (by decide))).trans (pass7 _ (by decide))).trans (pass6 _ (by decide))).trans (pass5 _ (by decide))).trans (pass4 _ (by decide))
/-- `main_v47` after segment 10 is what it was after segment 5. -/
theorem c_v47_10 : U10 V (Proc.devRef .tc main_v47) = U5 V (Proc.devRef .tc main_v47) :=
  (((((pass10 _ (by decide)).trans (pass9 _ (by decide)))).trans (pass8 _ (by decide))).trans (pass7 _ (by decide))).trans (pass6 _ (by decide))
/-- `main_v51` after segment 10 is what it was after segment 5. -/
theorem c_v51_10 : U10 V (Proc.devRef .tc main_v51) = U5 V (Proc.devRef .tc main_v51) :=
  (((((pass10 _ (by decide)).trans (pass9 _ (by decide)))).trans (pass8 _ (by decide))).trans (pass7 _ (by decide))).trans (pass6 _ (by decide))
/-- `main_v50` after segment 7 is what it was after segment 5. -/
theorem c_v50_7 : U7 V (Proc.devRef .tc main_v50) = U5 V (Proc.devRef .tc main_v50) :=
  ((pass7 _ (by decide)).trans (pass6 _ (by decide)))
/-- `main_v50` after segment 12 is what it was after segment 5. -/
theorem c_v50_12 : U12 V (Proc.devRef .tc main_v50) = U5 V (Proc.devRef .tc main_v50) :=
  (((((((pass12 _ (by decide)).trans (pass11 _ (by decide)))).trans (pass10 _ (by decide))).trans (pass9 _ (by decide))).trans (pass8 _ (by decide))).trans (pass7 _ (by decide))).trans (pass6 _ (by decide))
/-- `main_v52` after segment 7 is what it was after segment 5. -/
theorem c_v52_7 : U7 V (Proc.devRef .tc main_v52) = U5 V (Proc.devRef .tc main_v52) :=
  ((pass7 _ (by decide)).trans (pass6 _ (by decide)))
/-- `main_v52` after segment 12 is what it was after segment 5. -/
theorem c_v52_12 : U12 V (Proc.devRef .tc main_v52) = U5 V (Proc.devRef .tc main_v52) :=
  (((((((pass12 _ (by decide)).trans (pass11 _ (by decide)))).trans (pass10 _ (by decide))).trans (pass9 _ (by decide))).trans (pass8 _ (by decide))).trans (pass7 _ (by decide))).trans (pass6 _ (by decide))
/-- `main_v70` after segment 8 is what it was after segment 7. -/
theorem c_v70_8 : U8 V (Proc.devRef .tc main_v70) = U7 V (Proc.devRef .tc main_v70) :=
  (pass8 _ (by decide))
/-- `main_v95` after segment 11 is what it was after segment 10. -/
theorem c_v95_11 : U11 V (Proc.devRef .tc main_v95) = U10 V (Proc.devRef .tc main_v95) :=
  (pass11 _ (by decide))
/-- `main_v95` after segment 13 is what it was after segment 10. -/
theorem c_v95_13 : U13 V (Proc.devRef .tc main_v95) = U10 V (Proc.devRef .tc main_v95) :=
  (((pass13 _ (by decide)).trans (pass12 _ (by decide)))).trans (pass11 _ (by decide))
/-- `main_v113` after segment 14 is what it was after segment 12. -/
theorem c_v113_14 : U14 V (Proc.devRef .tc main_v113) = U12 V (Proc.devRef .tc main_v113) :=
  ((pass14 _ (by decide)).trans (pass13 _ (by decide)))
/-- `main_arg2` after segment 9 is what it was at the start. -/
theorem c_arg2_9 : U9 V (Proc.devRef .tc main_arg2) = V (Proc.devRef .tc main_arg2) :=
  ((((((((((pass9 _ (by decide)).trans (pass8 _ (by decide)))).trans (pass7 _ (by decide))).trans (pass6 _ (by decide))).trans (pass5 _ (by decide))).trans (pass4 _ (by decide))).trans (pass3 _ (by decide))).trans (pass2 _ (by decide))).trans (pass1 _ (by decide))).trans (pass0 _ (by decide))
/-- `main_arg3` after segment 9 is what it was at the start. -/
theorem c_arg3_9 : U9 V (Proc.devRef .tc main_arg3) = V (Proc.devRef .tc main_arg3) :=
  ((((((((((pass9 _ (by decide)).trans (pass8 _ (by decide)))).trans (pass7 _ (by decide))).trans (pass6 _ (by decide))).trans (pass5 _ (by decide))).trans (pass4 _ (by decide))).trans (pass3 _ (by decide))).trans (pass2 _ (by decide))).trans (pass1 _ (by decide))).trans (pass0 _ (by decide))
/-- `main_arg4` after segment 9 is what it was at the start. -/
theorem c_arg4_9 : U9 V (Proc.devRef .tc main_arg4) = V (Proc.devRef .tc main_arg4) :=
  ((((((((((pass9 _ (by decide)).trans (pass8 _ (by decide)))).trans (pass7 _ (by decide))).trans (pass6 _ (by decide))).trans (pass5 _ (by decide))).trans (pass4 _ (by decide))).trans (pass3 _ (by decide))).trans (pass2 _ (by decide))).trans (pass1 _ (by decide))).trans (pass0 _ (by decide))
/-- `main_arg5` after segment 9 is what it was at the start. -/
theorem c_arg5_9 : U9 V (Proc.devRef .tc main_arg5) = V (Proc.devRef .tc main_arg5) :=
  ((((((((((pass9 _ (by decide)).trans (pass8 _ (by decide)))).trans (pass7 _ (by decide))).trans (pass6 _ (by decide))).trans (pass5 _ (by decide))).trans (pass4 _ (by decide))).trans (pass3 _ (by decide))).trans (pass2 _ (by decide))).trans (pass1 _ (by decide))).trans (pass0 _ (by decide))

/-- The tokens. -/
def aX (t : Fin 2048) (k : Fin 1024) : EReal := (V (Proc.devRef .tc main_arg0) (ix3 0 t k) : Elt Ideal .f32)
/-- The router's weights. -/
def aG (k : Fin 1024) (e : Fin 8) : EReal := (V (Proc.devRef .tc main_arg1) (ix2 k e) : Elt Ideal .f32)
/-- The experts' first weights. -/
def aW1 (e : Fin 8) (k : Fin 1024) (h : Fin 4096) : EReal := (V (Proc.devRef .tc main_arg2) (ix3 e k h) : Elt Ideal .f32)
/-- The experts' first biases. -/
def aB1 (e : Fin 8) (h : Fin 4096) : EReal := (V (Proc.devRef .tc main_arg3) (ix2 e h) : Elt Ideal .f32)
/-- The experts' second weights. -/
def aW2 (e : Fin 8) (h : Fin 4096) (d : Fin 1024) : EReal := (V (Proc.devRef .tc main_arg4) (ix3 e h d) : Elt Ideal .f32)
/-- The experts' second biases. -/
def aB2 (e : Fin 8) (d : Fin 1024) : EReal := (V (Proc.devRef .tc main_arg5) (ix2 e d) : Elt Ideal .f32)

/-- The logits of the arguments. -/
abbrev aL : Fin 2048 → Fin 8 → EReal := logits (aX V) (aG V)

/-- What the slots hold. -/
def held (L : Fin 2048 → Fin 8 → EReal) (x : Fin 2048 → Fin 1024 → EReal) (e : Fin 8) (c : Fin 512) (d : Fin 1024) : EReal :=
  (0 + ∑ t, if e1 L t = e ∧ slot (q1 (e1 L) t (e1 L t)) = c.val then x t d * keep (q1 (e1 L) t (e1 L t)) else 0)
    + ∑ t, if e2 L t = e ∧ slot (q2 (e1 L) (e2 L) t (e2 L t)) = c.val then x t d * keep (q2 (e1 L) (e2 L) t (e2 L t)) else 0

/-- The experts' affine maps of what the slots hold. -/
def mapped (e : Fin 8) (c : Fin 512) (d : Fin 1024) : EReal :=
  ∑ h, (∑ k, held (aL V) (aX V) e c k * aW1 V e k h + aB1 V e h) * aW2 V e h d + aB2 V e d

section
variable (l : Fin 2048 → Fin 8 → ℝ) (hL : ∀ t e, aL V t e = (l t e : EReal))
include hL

/-- The flattened tokens. -/
theorem f0 (t : Fin 2048) (k : Fin 1024) :
    (U0 V (Proc.devRef .tc main_v0) (ix2 t k) : Elt Ideal .f32) = aX V t k :=
  v0_at V t k
/-- The logits. -/
theorem f1 (t : Fin 2048) (e : Fin 8) :
    (U0 V (Proc.devRef .tc main_v1) (ix2 t e) : Elt Ideal .f32) = aL V t e :=
  v1_at V t e
/-- The gates. -/
theorem f12 (t : Fin 2048) (e : Fin 8) :
    (U0 V (Proc.devRef .tc main_v12) (ix2 t e) : Elt Ideal .f32) = gate (aL V) t e :=
  v12_at V t e
/-- The first expert. -/
theorem f13 (t : Fin 2048) :
    (U1 V (Proc.devRef .tc main_v13) (ix1 t) : Elt Ideal .i32) = BitVec.ofNat 32 (e1 (aL V) t).val :=
  (v13_at (U0 V) (gate (aL V)) (f12 V l hL) t).trans (by rw [top_gate (aL V) l hL])
/-- Its one-hot row. -/
theorem f14 (t : Fin 2048) (e : Fin 8) :
    (U1 V (Proc.devRef .tc main_v14) (ix2 t e) : Elt Ideal .f32) = hot (e1 (aL V) t) e :=
  (v14_at (U0 V) (gate (aL V)) (f12 V l hL) t e).trans (by rw [top_gate (aL V) l hL])
/-- The second expert. -/
theorem f18 (t : Fin 2048) :
    (U2 V (Proc.devRef .tc main_v18) (ix1 t) : Elt Ideal .i32) = BitVec.ofNat 32 (e2 (aL V) t).val :=
  v18_at (U1 V) (aL V) (fun a b => (congrFun (c_v1_1 V) _).trans (f1 V l hL a b)) (f14 V l hL) t
/-- Its one-hot row. -/
theorem f19 (t : Fin 2048) (e : Fin 8) :
    (U2 V (Proc.devRef .tc main_v19) (ix2 t e) : Elt Ideal .f32) = hot (e2 (aL V) t) e :=
  v19_at (U1 V) (aL V) (fun a b => (congrFun (c_v1_1 V) _).trans (f1 V l hL a b)) (f14 V l hL) t e
/-- The first normalised gate. -/
theorem f27 (t : Fin 2048) :
    (U3 V (Proc.devRef .tc main_v27) (ix1 t) : Elt Ideal .f32) = n1 (aL V) t :=
  v27_at (U2 V) (aL V) (fun a b => (congrFun (c_v12_2 V) _).trans (f12 V l hL a b)) (fun a b => (congrFun (c_v14_2 V) _).trans (f14 V l hL a b)) (f19 V l hL) t
/-- The second normalised gate. -/
theorem f28 (t : Fin 2048) :
    (U3 V (Proc.devRef .tc main_v28) (ix1 t) : Elt Ideal .f32) = n2 (aL V) t :=
  v28_at (U2 V) (aL V) (fun a b => (congrFun (c_v12_2 V) _).trans (f12 V l hL a b)) (fun a b => (congrFun (c_v14_2 V) _).trans (f14 V l hL a b)) (f19 V l hL) t
/-- The places at the first choice. -/
theorem f30 (t : Fin 2048) (e : Fin 8) :
    (U4 V (Proc.devRef .tc main_v30) (ix2 t e) : Elt Ideal .f32) = num (q1 (e1 (aL V)) t e) :=
  v30_at (U3 V) (e1 (aL V)) (fun a b => (congrFun (c_v14_3 V) _).trans (f14 V l hL a b)) t e
/-- The places at the second choice. -/
theorem f36 (t : Fin 2048) (e : Fin 8) :
    (U4 V (Proc.devRef .tc main_v36) (ix2 t e) : Elt Ideal .f32) = num (q2 (e1 (aL V)) (e2 (aL V)) t e) :=
  v36_at (U3 V) (e1 (aL V)) (e2 (aL V)) (fun a b => (congrFun (c_v14_3 V) _).trans (f14 V l hL a b)) (fun a b => (congrFun (c_v19_3 V) _).trans (f19 V l hL a b)) t e
/-- The first slot. -/
theorem f47 (t : Fin 2048) :
    (U5 V (Proc.devRef .tc main_v47) (ix1 t) : Elt Ideal .i32) = BitVec.ofNat 32 (slot (q1 (e1 (aL V)) t (e1 (aL V) t))) :=
  v47_at (U4 V) (e1 (aL V)) (q1 (e1 (aL V))) (fun a b => (congrFun (c_v14_4 V) _).trans (f14 V l hL a b)) (f30 V l hL) t
/-- The first keep flag. -/
theorem f51 (t : Fin 2048) :
    (U5 V (Proc.devRef .tc main_v51) (ix1 t) : Elt Ideal .f32) = keep (q1 (e1 (aL V)) t (e1 (aL V) t)) :=
  v51_at (U4 V) (e1 (aL V)) (q1 (e1 (aL V))) (fun a b => (congrFun (c_v14_4 V) _).trans (f14 V l hL a b)) (f30 V l hL) t
/-- The second slot. -/
theorem f50 (t : Fin 2048) :
    (U5 V (Proc.devRef .tc main_v50) (ix1 t) : Elt Ideal .i32) = BitVec.ofNat 32 (slot (q2 (e1 (aL V)) (e2 (aL V)) t (e2 (aL V) t))) :=
  v50_at (U4 V) (e2 (aL V)) (q2 (e1 (aL V)) (e2 (aL V))) (fun a b => (congrFun (c_v19_4 V) _).trans (f19 V l hL a b)) (f36 V l hL) t
/-- The second keep flag. -/
theorem f52 (t : Fin 2048) :
    (U5 V (Proc.devRef .tc main_v52) (ix1 t) : Elt Ideal .f32) = keep (q2 (e1 (aL V)) (e2 (aL V)) t (e2 (aL V) t)) :=
  v52_at (U4 V) (e2 (aL V)) (q2 (e1 (aL V)) (e2 (aL V))) (fun a b => (congrFun (c_v19_4 V) _).trans (f19 V l hL a b)) (f36 V l hL) t
/-- The empty slots. -/
theorem f53 (e : Fin 8) (c : Fin 512) (d : Fin 1024) :
    (U6 V (Proc.devRef .tc main_v53) (ix3 e c d) : Elt Ideal .f32) = (0 : EReal) :=
  v53_at (U5 V) e c d
/-- The first rows. -/
theorem f56 (t : Fin 2048) (d : Fin 1024) :
    (U6 V (Proc.devRef .tc main_v56) (ix2 t d) : Elt Ideal .f32) = aX V t d * keep (q1 (e1 (aL V)) t (e1 (aL V) t)) :=
  v56_at (U5 V) (aX V) (fun t => keep (q1 (e1 (aL V)) t (e1 (aL V) t))) (fun a b => (congrFun (c_v0_5 V) _).trans (f0 V l hL a b)) (f51 V l hL) t d
/-- The first rows' experts. -/
theorem i_69_0 (t : Fin 2048) :
    (U6 V (Proc.devRef .tc main_v69) (ix2 t 0) : Elt Ideal .i32).toInt = (e1 (aL V) t).val :=
  v69_at0 (U5 V) (e1 (aL V)) (fun a => (congrFun (c_v13_5 V) _).trans (f13 V l hL a)) t
/-- The first rows' slots. -/
theorem i_69_1 (t : Fin 2048) :
    (U6 V (Proc.devRef .tc main_v69) (ix2 t 1) : Elt Ideal .i32).toInt = slot (q1 (e1 (aL V)) t (e1 (aL V) t)) :=
  v69_at1 (U5 V) (fun t => slot (q1 (e1 (aL V)) t (e1 (aL V) t))) (fun _ => slot_lt _) (f47 V l hL) t
/-- The slots after the first choices. -/
theorem f70 (e : Fin 8) (c : Fin 512) (d : Fin 1024) :
    (U7 V (Proc.devRef .tc main_v70) (ix3 e c d) : Elt Ideal .f32) = 0 + ∑ t, if e1 (aL V) t = e ∧ slot (q1 (e1 (aL V)) t (e1 (aL V) t)) = c.val then aX V t d * keep (q1 (e1 (aL V)) t (e1 (aL V) t)) else 0 :=
  v70_at (U6 V) (e1 (aL V)) (fun t => slot (q1 (e1 (aL V)) t (e1 (aL V) t))) (fun _ _ _ => 0) (fun t d => aX V t d * keep (q1 (e1 (aL V)) t (e1 (aL V) t))) (i_69_0 V l hL) (i_69_1 V l hL) (f53 V l hL) (f56 V l hL) e c d
/-- The second rows. -/
theorem f73 (t : Fin 2048) (d : Fin 1024) :
    (U8 V (Proc.devRef .tc main_v73) (ix2 t d) : Elt Ideal .f32) = aX V t d * keep (q2 (e1 (aL V)) (e2 (aL V)) t (e2 (aL V) t)) :=
  v73_at (U7 V) (aX V) (fun t => keep (q2 (e1 (aL V)) (e2 (aL V)) t (e2 (aL V) t))) (fun a b => (congrFun (c_v0_7 V) _).trans (f0 V l hL a b)) (fun a => (congrFun (c_v52_7 V) _).trans (f52 V l hL a)) t d
/-- The second rows' experts. -/
theorem i_86_0 (t : Fin 2048) :
    (U8 V (Proc.devRef .tc main_v86) (ix2 t 0) : Elt Ideal .i32).toInt = (e2 (aL V) t).val :=
  v86_at0 (U7 V) (e2 (aL V)) (fun a => (congrFun (c_v18_7 V) _).trans (f18 V l hL a)) t
/-- The second rows' slots. -/
theorem i_86_1 (t : Fin 2048) :
    (U8 V (Proc.devRef .tc main_v86) (ix2 t 1) : Elt Ideal .i32).toInt = slot (q2 (e1 (aL V)) (e2 (aL V)) t (e2 (aL V) t)) :=
  v86_at1 (U7 V) (fun t => slot (q2 (e1 (aL V)) (e2 (aL V)) t (e2 (aL V) t))) (fun _ => slot_lt _) (fun a => (congrFun (c_v50_7 V) _).trans (f50 V l hL a)) t
/-- The slots after both choices. -/
theorem f87 (e : Fin 8) (c : Fin 512) (d : Fin 1024) :
    (U9 V (Proc.devRef .tc main_v87) (ix3 e c d) : Elt Ideal .f32) = held (aL V) (aX V) e c d :=
  v87_at (U8 V) (e2 (aL V)) (fun t => slot (q2 (e1 (aL V)) (e2 (aL V)) t (e2 (aL V) t))) (fun e c d => 0 + ∑ t, if e1 (aL V) t = e ∧ slot (q1 (e1 (aL V)) t (e1 (aL V) t)) = c.val then aX V t d * keep (q1 (e1 (aL V)) t (e1 (aL V) t)) else 0) (fun t d => aX V t d * keep (q2 (e1 (aL V)) (e2 (aL V)) t (e2 (aL V) t))) (i_86_0 V l hL) (i_86_1 V l hL) (fun a b c => (congrFun (c_v70_8 V) _).trans (f70 V l hL a b c)) (f73 V l hL) e c d
/-- The affine maps of the slots. -/
theorem f95 (e : Fin 8) (c : Fin 512) (d : Fin 1024) :
    (U10 V (Proc.devRef .tc main_v95) (ix3 e c d) : Elt Ideal .f32) = mapped V e c d :=
  v95_at (U9 V) (held (aL V) (aX V)) (aW1 V) (aB1 V) (aW2 V) (aB2 V) (f87 V l hL) (fun _ _ _ => congrFun (c_arg2_9 V) _) (fun _ _ => congrFun (c_arg3_9 V) _) (fun _ _ _ => congrFun (c_arg4_9 V) _) (fun _ _ => congrFun (c_arg5_9 V) _) e c d
/-- The first kept gate. -/
theorem f97 (t : Fin 2048) :
    (U11 V (Proc.devRef .tc main_v97) (ix2 t 0) : Elt Ideal .f32) = n1 (aL V) t * keep (q1 (e1 (aL V)) t (e1 (aL V) t)) :=
  v97_at (U10 V) (n1 (aL V)) (fun t => keep (q1 (e1 (aL V)) t (e1 (aL V) t))) (fun a => (congrFun (c_v27_10 V) _).trans (f27 V l hL a)) (fun a => (congrFun (c_v51_10 V) _).trans (f51 V l hL a)) t
/-- The first gathered experts. -/
theorem i_110_0 (t : Fin 2048) :
    (U11 V (Proc.devRef .tc main_v110) (ix2 t 0) : Elt Ideal .i32).toInt = (e1 (aL V) t).val :=
  v110_at0 (U10 V) (e1 (aL V)) (fun a => (congrFun (c_v13_10 V) _).trans (f13 V l hL a)) t
/-- The first gathered slots. -/
theorem i_110_1 (t : Fin 2048) :
    (U11 V (Proc.devRef .tc main_v110) (ix2 t 1) : Elt Ideal .i32).toInt = slot (q1 (e1 (aL V)) t (e1 (aL V) t)) :=
  v110_at1 (U10 V) (fun t => slot (q1 (e1 (aL V)) t (e1 (aL V) t))) (fun _ => slot_lt _) (fun a => (congrFun (c_v47_10 V) _).trans (f47 V l hL a)) t
/-- The first gathered rows, weighed. -/
theorem f113 (t : Fin 2048) (d : Fin 1024) :
    (U12 V (Proc.devRef .tc main_v113) (ix2 t d) : Elt Ideal .f32) = n1 (aL V) t * keep (q1 (e1 (aL V)) t (e1 (aL V) t)) * mapped V (e1 (aL V) t) ⟨slot (q1 (e1 (aL V)) t (e1 (aL V) t)), slot_lt _⟩ d :=
  v113_at (U11 V) (fun t => n1 (aL V) t * keep (q1 (e1 (aL V)) t (e1 (aL V) t))) (mapped V) (f97 V l hL) (fun a b c => (congrFun (c_v95_11 V) _).trans (f95 V l hL a b c)) t d _ _ (i_110_0 V l hL t) (i_110_1 V l hL t)
/-- The second kept gate. -/
theorem f115 (t : Fin 2048) :
    (U13 V (Proc.devRef .tc main_v115) (ix2 t 0) : Elt Ideal .f32) = n2 (aL V) t * keep (q2 (e1 (aL V)) (e2 (aL V)) t (e2 (aL V) t)) :=
  v115_at (U12 V) (n2 (aL V)) (fun t => keep (q2 (e1 (aL V)) (e2 (aL V)) t (e2 (aL V) t))) (fun a => (congrFun (c_v28_12 V) _).trans (f28 V l hL a)) (fun a => (congrFun (c_v52_12 V) _).trans (f52 V l hL a)) t
/-- The second gathered experts. -/
theorem i_128_0 (t : Fin 2048) :
    (U13 V (Proc.devRef .tc main_v128) (ix2 t 0) : Elt Ideal .i32).toInt = (e2 (aL V) t).val :=
  v128_at0 (U12 V) (e2 (aL V)) (fun a => (congrFun (c_v18_12 V) _).trans (f18 V l hL a)) t
/-- The second gathered slots. -/
theorem i_128_1 (t : Fin 2048) :
    (U13 V (Proc.devRef .tc main_v128) (ix2 t 1) : Elt Ideal .i32).toInt = slot (q2 (e1 (aL V)) (e2 (aL V)) t (e2 (aL V) t)) :=
  v128_at1 (U12 V) (fun t => slot (q2 (e1 (aL V)) (e2 (aL V)) t (e2 (aL V) t))) (fun _ => slot_lt _) (fun a => (congrFun (c_v50_12 V) _).trans (f50 V l hL a)) t
/-- The second gathered rows, weighed. -/
theorem f131 (t : Fin 2048) (d : Fin 1024) :
    (U14 V (Proc.devRef .tc main_v131) (ix2 t d) : Elt Ideal .f32) = n2 (aL V) t * keep (q2 (e1 (aL V)) (e2 (aL V)) t (e2 (aL V) t)) * mapped V (e2 (aL V) t) ⟨slot (q2 (e1 (aL V)) (e2 (aL V)) t (e2 (aL V) t)), slot_lt _⟩ d :=
  v131_at (U13 V) (fun t => n2 (aL V) t * keep (q2 (e1 (aL V)) (e2 (aL V)) t (e2 (aL V) t))) (mapped V) (f115 V l hL) (fun a b c => (congrFun (c_v95_13 V) _).trans (f95 V l hL a b c)) t d _ _ (i_128_0 V l hL t) (i_128_1 V l hL t)
/-- The mixed rows summed. -/
theorem f134 (t : Fin 2048) :
    (U15 V (Proc.devRef .tc main_v134) (ix2 0 t) : Elt Ideal .f32) = ∑ d, (n1 (aL V) t * keep (q1 (e1 (aL V)) t (e1 (aL V) t)) * mapped V (e1 (aL V) t) ⟨slot (q1 (e1 (aL V)) t (e1 (aL V) t)), slot_lt _⟩ d + n2 (aL V) t * keep (q2 (e1 (aL V)) (e2 (aL V)) t (e2 (aL V) t)) * mapped V (e2 (aL V) t) ⟨slot (q2 (e1 (aL V)) (e2 (aL V)) t (e2 (aL V) t)), slot_lt _⟩ d) :=
  v134_at (U14 V) (fun t d => n1 (aL V) t * keep (q1 (e1 (aL V)) t (e1 (aL V) t)) * mapped V (e1 (aL V) t) ⟨slot (q1 (e1 (aL V)) t (e1 (aL V) t)), slot_lt _⟩ d) (fun t d => n2 (aL V) t * keep (q2 (e1 (aL V)) (e2 (aL V)) t (e2 (aL V) t)) * mapped V (e2 (aL V) t) ⟨slot (q2 (e1 (aL V)) (e2 (aL V)) t (e2 (aL V) t)), slot_lt _⟩ d) (fun a b => (congrFun (c_v113_14 V) _).trans (f113 V l hL a b)) (f131 V l hL) t

section
variable (hX : ∀ t k, ∃ r : ℝ, aX V t k = (r : EReal)) (hW1 : ∀ e k h, ∃ r : ℝ, aW1 V e k h = (r : EReal))
  (hB1 : ∀ e h, ∃ r : ℝ, aB1 V e h = (r : EReal)) (hW2 : ∀ e h d, ∃ r : ℝ, aW2 V e h d = (r : EReal))
include hX hW1 hB1 hW2

omit hL in
/-- A slot that holds one token's row is mapped to outputs that sum to the token's score. -/
theorem mapped_sum (t : Fin 2048) (e : Fin 8) (c : Fin 512) (h : ∀ d, held (aL V) (aX V) e c d = aX V t d) :
    (∑ d, mapped V e c d) = score (aX V) (aW1 V) (aB1 V) (aW2 V) (aB2 V) t e := by
  unfold mapped
  simp only [h]
  exact expert_sum _ _ _ _ _ (hX t) (hW1 e) (hB1 e) (hW2 e)

/-- The mixed rows' sum is the mixed expert sum. -/
theorem mix_at (t : Fin 2048) : (U15 V (Proc.devRef .tc main_v134) (ix2 0 t) : Elt Ideal .f32)
    = mixed (aL V) (score (aX V) (aW1 V) (aB1 V) (aW2 V) (aB2 V)) t := by
  rw [f134 V l hL t, Finset.sum_add_distrib]
  unfold mixed
  refine congrArg₂ (· + ·) ?_ ?_
  · refine gate_mul_sum _ (n1_real (aL V) l hL t) _ _ _ fun hk => mapped_sum V hX hW1 hB1 hW2 t _ _ fun d => ?_
    unfold held
    rw [zero_add]
    exact (congrArg₂ (· + ·) (first_first (e1 (aL V)) (fun s => aX V s d) t hk)
      (first_second (e1 (aL V)) (e2 (aL V)) (fun s => aX V s d) t hk)).trans (add_zero _)
  · refine gate_mul_sum _ (n2_real (aL V) l hL t) _ _ _ fun hk => mapped_sum V hX hW1 hB1 hW2 t _ _ fun d => ?_
    unfold held
    rw [zero_add]
    exact (congrArg₂ (· + ·) (second_first (e1 (aL V)) (e2 (aL V)) (fun s => aX V s d) t hk)
      (second_second (e1 (aL V)) (e2 (aL V)) (fun s => aX V s d) t hk)).trans (zero_add _)

/-- The reference's result: the log-softmax over tokens of the mixed expert sums. -/
theorem result_at (t : Fin 2048) : (U16 V (Proc.devRef .tc main_v135) (ix2 0 t) : Elt Ideal .f32)
    = lsm (mixed (aL V) (score (aX V) (aW1 V) (aB1 V) (aW2 V) (aB2 V))) t :=
  v135_at (U15 V) _ (mix_at V l hL hX hW1 hB1 hW2) t
end
end

end Cert.Moe.Ref

end
-- ==== Proof.PreFinite.lean ====
/- The precondition, read: the arrays it names hold real numbers only. -/
module

public import proofs.«01_k».proof.Defs
public import Idealize.ShloMosaic.Lib.ReduceAll
public import Idealize.ShloMosaic.PureOps.Ideal.Laws

@[expose] public section

set_option maxRecDepth 16384

noncomputable section

namespace Cert.Moe.Pre

open Idealize.ShloMosaic Cert.Pre_finite

/-- The side conditions of the predicate's operations. -/
theorem facts : Cert.Pre_finite.Facts where
  bcast_S_S1x2048x1024 := by decide
  reducesTo_S1x2048x1024_S_d0_1_2 := by decide
  h_S_ := by decide
  bcast_S_S1024x8 := by decide
  reducesTo_S1024x8_S_d0_1 := by decide
  bcast_S_S8x1024x4096 := by decide
  reducesTo_S8x1024x4096_S_d0_1_2 := by decide
  bcast_S_S8x4096 := by decide
  reducesTo_S8x4096_S_d0_1 := by decide
  bcast_S_S8x4096x1024 := by decide
  reducesTo_S8x4096x1024_S_d0_1_2 := by decide

/-- The word 0x7F800000 is plus infinity. -/
theorem pos_inf : Ideal.ofBits .f32 0x7F800000#32 = ⊤ := by simp [Ideal.ofBits, Ideal.ieee]

/-- An extended real whose magnitude is below infinity is a real number. -/
theorem real_of_abs_lt (a : EReal) (h : max a (-a) < ⊤) : ∃ r : ℝ, a = (r : EReal) := by
  induction a with
  | bot => simp at h
  | top => simp at h
  | coe r => exact ⟨r, rfl⟩

/-- An array whose magnitudes all test below infinity holds real numbers only. -/
theorem real_of_all {s : Shape} {axes : List (Fin s.rank)} (x : FVec Ideal s .f32) (hb : S_.BroadcastsInDim s (![] : Fin 0 → Fin s.rank))
    (h : s.ReducesTo axes S_) (hu : 0 < S_.numel)
    (e : Host.reduce IntOp.andi (cmpf .olt (Host.absf x) (broadcastInDim s ![] hb (constant S_ .f32 0x7F800000#32)))
      (constantI S_ 1 1#1) h hu = fun _ => 1#1) (i : s.Idx) : ∃ r : ℝ, (x i : EReal) = (r : EReal) := by
  have : Subsingleton S_.Idx := ⟨fun a b => funext fun d => d.elim0⟩
  have hi := Host.reduce_andi_all _ _ h hu (Shape.Idx.first hu) (congrFun e _) i
  refine real_of_abs_lt _ ?_
  have hi' : BitVec.ofBool (decide (max (x i : EReal) (-(x i : EReal)) < Ideal.ofBits .f32 0x7F800000#32)) = 1#1 := hi
  rw [pos_inf] at hi'
  by_contra hn
  rw [decide_eq_false hn] at hi'
  exact absurd hi' (by decide)

/-- The predicate all ones: its first five arrays hold real numbers only. -/
theorem reals [Cert.Pre_finite.Facts] (a0 : FVec Ideal S1x2048x1024 .f32) (a1 : FVec Ideal S1024x8 .f32) (a2 : FVec Ideal S8x1024x4096 .f32)
    (a3 : FVec Ideal S8x4096 .f32) (a4 : FVec Ideal S8x4096x1024 .f32) (a5 : FVec Ideal S8x1024 .f32)
    (h : (fn (F := Ideal) a0 a1 a2 a3 a4 a5).1 = (fun _ => 1#1)
      ∧ (fn (F := Ideal) a0 a1 a2 a3 a4 a5).2.1 = (fun _ => 1#1)
      ∧ (fn (F := Ideal) a0 a1 a2 a3 a4 a5).2.2.1 = (fun _ => 1#1)
      ∧ (fn (F := Ideal) a0 a1 a2 a3 a4 a5).2.2.2.1 = (fun _ => 1#1)
      ∧ (fn (F := Ideal) a0 a1 a2 a3 a4 a5).2.2.2.2 = (fun _ => 1#1)) :
    (∀ i, ∃ r : ℝ, (a0 i : EReal) = r) ∧ (∀ i, ∃ r : ℝ, (a1 i : EReal) = r) ∧ (∀ i, ∃ r : ℝ, (a2 i : EReal) = r)
      ∧ (∀ i, ∃ r : ℝ, (a3 i : EReal) = r) ∧ (∀ i, ∃ r : ℝ, (a4 i : EReal) = r) := by
  dsimp only [fn, fn_part1] at h
  obtain ⟨h0, h1, h2, h3, h4⟩ := h
  have r0 := real_of_all a0 _ _ _ h0
  have r1 := real_of_all a1 _ _ _ h1
  have r2 := real_of_all a2 _ _ _ h2
  have r3 := real_of_all a3 _ _ _ h3
  have r4 := real_of_all a4 _ _ _ h4
  exact ⟨r0, r1, r2, r3, r4⟩

end Cert.Moe.Pre

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.KernelRun
public import proofs.«01_k».proof.Proof.KerValue
public import proofs.«01_k».proof.Proof.RefValue
public import proofs.«01_k».proof.Proof.PreFinite

@[expose] public section

set_option maxRecDepth 16384

noncomputable section

namespace Cert.Proof

open Idealize.ShloMosaic Idealize.SL.Sem Cert.Moe

attribute [local instance] Cert.Kernel.Gen.facts Cert.KernelIdeal.Gen.facts Cert.ReferenceIdeal.Gen.facts Cert.Moe.Pre.facts

/-- The logits of real tokens and a real gate are real. -/
theorem logits_real (x : Fin 2048 → Fin 1024 → EReal) (g : Fin 1024 → Fin 8 → EReal) (hx : ∀ t k, ∃ r : ℝ, x t k = (r : EReal))
    (hg : ∀ k e, ∃ r : ℝ, g k e = (r : EReal)) : ∃ l : Fin 2048 → Fin 8 → ℝ, ∀ t e, logits x g t e = (l t e : EReal) := by
  choose x' hx' using hx
  choose g' hg' using hg
  refine ⟨fun t e => ∑ k, x' t k * g' k e, fun t e => ?_⟩
  simp only [logits, hx', hg', ← EReal.coe_mul, sum_coe]

/-- The reference runs from every memory, keeps its arguments, and ends with every counter at zero. -/
theorem reference_frame : Cert.quiescent_ReferenceIdeal := fun m g _ =>
  (θ_run Cert.ReferenceIdeal.defs _ _).mono (fun _ h => ⟨fun c => (h.1 c).2, h.2⟩) (Cert.Moe.Ref.run m g)

/-- The kernel and the reference, from the same arguments, end with the same result. -/
theorem algebraic : Cert.algebraic_KernelIdeal_ReferenceIdeal_pre_finite := by
  intro m g m' g' hpre hm
  refine ⟨fun c => Cert.KernelIdeal.Gen.W5 m g c (Proc.devRef .tc Cert.KernelIdeal.main_v7),
    (θ_run Cert.KernelIdeal.defs _ _).mono (fun _ h => h.1) (Cert.Moe.Ker.run m g),
    (θ_run Cert.ReferenceIdeal.defs _ _).mono (fun _ h c => ⟨(h.1 c).1.trans ?_, (h.1 c).2⟩) (Cert.Moe.Ref.run m' g')⟩
  obtain ⟨r0, r1, r2, r3, r4⟩ := Cert.Moe.Pre.reals _ _ _ _ _ _ (hpre c)
  obtain ⟨h0, h1, h2, h3, h4, h5⟩ := hm c
  have hX : ∀ t k, ∃ r : ℝ, Ref.aX (StableHlo.launchContents m' c) t k = (r : EReal) := fun t k => by
    obtain ⟨r, hr⟩ := r0 (ix3 0 t k)
    exact ⟨r, (congrFun h0 (ix3 0 t k)).trans hr⟩
  have hG : ∀ k e, ∃ r : ℝ, Ref.aG (StableHlo.launchContents m' c) k e = (r : EReal) := fun k e => by
    obtain ⟨r, hr⟩ := r1 (ix2 k e)
    exact ⟨r, (congrFun h1 (ix2 k e)).trans hr⟩
  have hW1 : ∀ e k h, ∃ r : ℝ, Ref.aW1 (StableHlo.launchContents m' c) e k h = (r : EReal) := fun e k h => by
    obtain ⟨r, hr⟩ := r2 (ix3 e k h)
    exact ⟨r, (congrFun h2 (ix3 e k h)).trans hr⟩
  have hB1 : ∀ e h, ∃ r : ℝ, Ref.aB1 (StableHlo.launchContents m' c) e h = (r : EReal) := fun e h => by
    obtain ⟨r, hr⟩ := r3 (ix2 e h)
    exact ⟨r, (congrFun h3 (ix2 e h)).trans hr⟩
  have hW2 : ∀ e h d, ∃ r : ℝ, Ref.aW2 (StableHlo.launchContents m' c) e h d = (r : EReal) := fun e h d => by
    obtain ⟨r, hr⟩ := r4 (ix3 e h d)
    exact ⟨r, (congrFun h4 (ix3 e h d)).trans hr⟩
  obtain ⟨l, hl⟩ := logits_real _ _ hX hG
  funext i
  have hi : i = ix2 0 (i 1) := funext fun a => match a with
    | ⟨0, _⟩ => Fin.ext (by have := (i 0).isLt; change (i 0).val < 1 at this; change (i 0).val = 0; omega)
    | ⟨1, _⟩ => rfl
  rw [hi]
  exact (Ref.result_at _ l hl hX hW1 hB1 hW2 (i 1)).trans
    (Ker.result_at m g c _ _ _ _ _ _ (fun t k => (congrFun h0 (ix3 0 t k)).symm) (fun k e => (congrFun h1 (ix2 k e)).symm)
      (fun e k h => (congrFun h2 (ix3 e k h)).symm) (fun e h => (congrFun h3 (ix2 e h)).symm)
      (fun e h d => (congrFun h4 (ix3 e h d)).symm) (fun e d => (congrFun h5 (ix2 e d)).symm) l hl (i 1)).symm

/-- Every claim of the certificate. -/
theorem claim : Cert.Claim := ⟨Cert.Kernel.Gen.facts, Cert.KernelIdeal.Gen.facts, Cert.ReferenceIdeal.Gen.facts, Cert.Moe.Pre.facts,
  fun m ρ _ => Cert.Kernel.Gen.frame m ρ, fun m ρ _ => Cert.KernelIdeal.Gen.frame m ρ, fun m ρ _ => Cert.KernelIdeal.Gen.frame m ρ,
  reference_frame, fun m g _ => reference_frame m g trivial, trivial, algebraic⟩

end Cert.Proof

end
